-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S2 : Shape := ⟨1, ![2]⟩
abbrev S1000000x16 : Shape := ⟨2, ![1000000, 16]⟩
abbrev S1000000x32 : Shape := ⟨2, ![1000000, 32]⟩
abbrev S1000000 : Shape := ⟨1, ![1000000]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel

variable [Facts]

def fn {F : FTy → Type} [FloatOps F] (main_arg0 : IVec S2 32) (main_arg1 : FVec F S1000000x16 .f32) (main_arg2 : FVec F S1000000x32 .f32) (main_arg3 : FVec F S1000000 .f32) : IVec S_ 1 :=
  let main_c : IVec S_ 32 := constantI S_ 32 0#32
  let main_v0 : IVec S2 32 := broadcastInDim S2 ![] bcast_S_S2 main_c
  let main_v1 : IVec S2 1 := cmpi .sge main_arg0 main_v0
  let main_c_0 : IVec S_ 32 := constantI S_ 32 1000000#32
  let main_v2 : IVec S2 32 := broadcastInDim S2 ![] bcast_S_S2 main_c_0
  let main_v3 : IVec S2 1 := cmpi .slt main_arg0 main_v2
  let main_v4 : IVec S2 1 := andi main_v1 main_v3
  let main_c_1 : IVec S_ 1 := constantI S_ 1 1#1
  let main_v5 : IVec S_ 1 := (fun x v => Host.reduce IntOp.andi x v reducesTo_S2_S_d0 h_S_) main_v4 main_c_1
  main_v5
-- ==== Kernel.lean ====
abbrev S2 : Shape := ⟨1, ![2]⟩
abbrev S1000000x16 : Shape := ⟨2, ![1000000, 16]⟩
abbrev S1000000x32 : Shape := ⟨2, ![1000000, 32]⟩
abbrev S1000000 : Shape := ⟨1, ![1000000]⟩
abbrev S32x1000000 : Shape := ⟨2, ![32, 1000000]⟩
abbrev S16x1000000 : Shape := ⟨2, ![16, 1000000]⟩
abbrev S_ : Shape := ⟨0, ![]⟩
abbrev S16x1000064 : Shape := ⟨2, ![16, 1000064]⟩
abbrev S1x1000000 : Shape := ⟨2, ![1, 1000000]⟩
abbrev S16x128 : Shape := ⟨2, ![16, 128]⟩
abbrev S1 : Shape := ⟨1, ![1]⟩
abbrev S32x204800 : Shape := ⟨2, ![32, 204800]⟩
abbrev S204800 : Shape := ⟨1, ![204800]⟩
abbrev S1x204800 : Shape := ⟨2, ![1, 204800]⟩
abbrev S1x128 : Shape := ⟨2, ![1, 128]⟩
abbrev S16 : Shape := ⟨1, ![16]⟩
abbrev S16x1 : Shape := ⟨2, ![16, 1]⟩
abbrev S32x1 : Shape := ⟨2, ![32, 1]⟩
abbrev S32x4096 : Shape := ⟨2, ![32, 4096]⟩
abbrev S4096 : Shape := ⟨1, ![4096]⟩
abbrev S1x4096 : Shape := ⟨2, ![1, 4096]⟩

abbrev nBuf : Space → Nat
  | .hbm => 9
  | .vmem => 8
  | .smem => 1
  | _ => 0

abbrev bufTy : (tb : Table) → Fin (tcTables nBuf tb) → BufTy
  | .hbm, ⟨0, _⟩ => ⟨S1000000x16, .f32⟩
  | .hbm, ⟨1, _⟩ => ⟨S1000000x32, .f32⟩
  | .hbm, ⟨2, _⟩ => ⟨S1000000, .f32⟩
  | .hbm, ⟨3, _⟩ => ⟨S32x1000000, .f32⟩
  | .hbm, ⟨4, _⟩ => ⟨S16x1000000, .f32⟩
  | .hbm, ⟨5, _⟩ => ⟨S_, .i32⟩
  | .hbm, ⟨6, _⟩ => ⟨S_, .f32⟩
  | .hbm, ⟨7, _⟩ => ⟨S16x1000064, .f32⟩
  | .hbm, ⟨8, _⟩ => ⟨S1x1000000, .f32⟩
  | .local _ .vmem, ⟨0, _⟩ => ⟨S16x128, .f32⟩
  | .local _ .vmem, ⟨1, _⟩ => ⟨S16x128, .f32⟩
  | .local _ .vmem, ⟨2, _⟩ => ⟨S32x204800, .f32⟩
  | .local _ .vmem, ⟨3, _⟩ => ⟨S32x204800, .f32⟩
  | .local _ .vmem, ⟨4, _⟩ => ⟨S204800, .f32⟩
  | .local _ .vmem, ⟨5, _⟩ => ⟨S204800, .f32⟩
  | .local _ .vmem, ⟨6, _⟩ => ⟨S1x204800, .f32⟩
  | .local _ .vmem, ⟨7, _⟩ => ⟨S1x204800, .f32⟩
  | .local _ .smem, ⟨0, _⟩ => ⟨S2, .i32⟩
  | _, _ => ⟨S1000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_16 : BitVec 32 := 0#32
  let c50_i32 : BitVec 32 := 50#32
  let v44 : BitVec 32 := Scalar.addi c0_i32_16 c50_i32
  let c1_i32_17 : BitVec 32 := 1#32
  ⟨c0_i32_16, v44, c1_i32_17⟩
def k0_off1 (k0_t1 : Fin k0_t1_loop.trips) : Fin 2 → Nat :=
  let c0_19 : Index := 0#32
  let c0_i32_16 : BitVec 32 := 0#32
  let c1_i32_17 : BitVec 32 := 1#32
  let arg7 : BitVec 32 := Scf.iv c0_i32_16 c1_i32_17 k0_t1
  let c4096_i32 : BitVec 32 := 4096#32
  let v45 : BitVec 32 := Scalar.muli arg7 c4096_i32
  let v46 : Index := Scalar.indexCast v45
  ![0, v46.toNat]
def k0_off2 (k0_t1 : Fin k0_t1_loop.trips) : Fin 1 → Nat :=
  let c0_i32_16 : BitVec 32 := 0#32
  let c1_i32_17 : BitVec 32 := 1#32
  let arg7 : BitVec 32 := Scf.iv c0_i32_16 c1_i32_17 k0_t1
  let c4096_i32 : BitVec 32 := 4096#32
  let v45 : BitVec 32 := Scalar.muli arg7 c4096_i32
  let v53 : Index := Scalar.indexCast v45
  ![v53.toNat]
def k0_off3 (k0_t1 : Fin k0_t1_loop.trips) : Fin 2 → Nat :=
  let c0_21 : Index := 0#32
  let c0_i32_16 : BitVec 32 := 0#32
  let c1_i32_17 : BitVec 32 := 1#32
  let arg7 : BitVec 32 := Scf.iv c0_i32_16 c1_i32_17 k0_t1
  let c4096_i32 : BitVec 32 := 4096#32
  let v45 : BitVec 32 := Scalar.muli arg7 c4096_i32
  let v57 : Index := Scalar.indexCast v45
  ![0, v57.toNat]
def cc0_transform_0 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c128_i32 : BitVec 32 := 128#32
  let v1 : BitVec 32 := Scalar.divsi v0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_1 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c128_i32 : BitVec 32 := 128#32
  let v1 : BitVec 32 := Scalar.divsi v0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x204800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S204800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x204800 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2 : Shape := ⟨1, ![2]⟩
abbrev S1000000x16 : Shape := ⟨2, ![1000000, 16]⟩
abbrev S1000000x32 : Shape := ⟨2, ![1000000, 32]⟩
abbrev S1000000 : Shape := ⟨1, ![1000000]⟩
abbrev S_ : Shape := ⟨0, ![]⟩
abbrev S2x1 : Shape := ⟨2, ![2, 1]⟩
abbrev S1 : Shape := ⟨1, ![1]⟩
abbrev S1x1 : Shape := ⟨2, ![1, 1]⟩
abbrev S2x16 : Shape := ⟨2, ![2, 16]⟩
abbrev S1x32 : Shape := ⟨2, ![1, 32]⟩
abbrev S32x1000000 : Shape := ⟨2, ![32, 1000000]⟩
abbrev S1x1000000 : Shape := ⟨2, ![1, 1000000]⟩

abbrev nBuf : Space → Nat
  | .hbm => 32
  | .vmem => 0
  | .smem => 0
  | _ => 0

abbrev bufTy : (tb : Table) → Fin (tcTables nBuf tb) → BufTy
  | .hbm, ⟨0, _⟩ => ⟨S2, .i32⟩
  | .hbm, ⟨1, _⟩ => ⟨S1000000x16, .f32⟩
  | .hbm, ⟨2, _⟩ => ⟨S1000000x32, .f32⟩
  | .hbm, ⟨3, _⟩ => ⟨S1000000, .f32⟩
  | .hbm, ⟨4, _⟩ => ⟨S_, .i32⟩
  | .hbm, ⟨5, _⟩ => ⟨S2, .i32⟩
  | .hbm, ⟨6, _⟩ => ⟨S2, .i1⟩
  | .hbm, ⟨7, _⟩ => ⟨S_, .i32⟩
  | .hbm, ⟨8, _⟩ => ⟨S2, .i32⟩
  | .hbm, ⟨9, _⟩ => ⟨S2, .i32⟩
  | .hbm, ⟨10, _⟩ => ⟨S2, .i32⟩
  | .hbm, ⟨11, _⟩ => ⟨S2x1, .i32⟩
  | .hbm, ⟨12, _⟩ => ⟨S1, .i32⟩
  | .hbm, ⟨13, _⟩ => ⟨S_, .i32⟩
  | .hbm, ⟨14, _⟩ => ⟨S2x1, .i32⟩
  | .hbm, ⟨15, _⟩ => ⟨S2x1, .i1⟩
  | .hbm, ⟨16, _⟩ => ⟨S1x1, .i32⟩
  | .hbm, ⟨17, _⟩ => ⟨S2x1, .i32⟩
  | .hbm, ⟨18, _⟩ => ⟨S2x1, .i1⟩
  | .hbm, ⟨19, _⟩ => ⟨S2x1, .i1⟩
  | .hbm, ⟨20, _⟩ => ⟨S_, .i1⟩
  | .hbm, ⟨21, _⟩ => ⟨S2, .i1⟩
  | .hbm, ⟨22, _⟩ => ⟨S2x16, .f32⟩
  | .hbm, ⟨23, _⟩ => ⟨S2x16, .i1⟩
  | .hbm, ⟨24, _⟩ => ⟨S_, .f32⟩
  | .hbm, ⟨25, _⟩ => ⟨S2x16, .f32⟩
  | .hbm, ⟨26, _⟩ => ⟨S2x16, .f32⟩
  | .hbm, ⟨27, _⟩ => ⟨S1x32, .f32⟩
  | .hbm, ⟨28, _⟩ => ⟨S32x1000000, .f32⟩
  | .hbm, ⟨29, _⟩ => ⟨S1x1000000, .f32⟩
  | .hbm, ⟨30, _⟩ => ⟨S1x1000000, .f32⟩
  | .hbm, ⟨31, _⟩ => ⟨S1x1000000, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩

abbrev nD : Nat := 1
abbrev τ : Topo := Topo.v7x

variable {F : FTy → Type} [FloatOps F]
-- ==== Proof.KernelRun.lean ====
/- `Kernel`'s run at any values, its output forgotten: the body on any staging buffers, the body obligation at any point
   of the grid, the launch, and from it that the arguments end unchanged and every counter at zero. -/
module

public import proofs.«01_k».proof.Proof.KernelEntry

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

set_option maxHeartbeats 1000000 in
/-- The body on whole staging buffers: the inputs' and the table come back as they were, the output's at contents
    nothing names. -/
theorem body_keeps (c : Dev nD) (i : grid0.Coords)
    (a2 : Memref sig .tc .vmem S16x128 .f32) (h2 : a2.IsWhole) (a3 : Memref sig .tc .vmem S16x128 .f32) (h3 : a3.IsWhole)
    (a4 : Memref sig .tc .vmem S32x204800 .f32) (h4 : a4.IsWhole) (a5 : Memref sig .tc .vmem S204800 .f32) (h5 : a5.IsWhole)
    (a6 : Memref sig .tc .vmem S1x204800 .f32) (h6 : a6.IsWhole)
    (x2 x3 : Vec F S16x128 .f32) (x4 : Vec F S32x204800 .f32) (x5 : Vec F S204800 .f32) (T : Held (F := F) c tabM)
    (E : Set ℕ) (K : PUnit → sProp 𝕄) :
    iprop(owns (c : Thread nD τ) a2 fullShare x2 ∗ owns (c : Thread nD τ) a3 fullShare x3
        ∗ owns (c : Thread nD τ) a4 fullShare x4 ∗ owns (c : Thread nD τ) a5 fullShare x5
        ∗ (∃ d, owns (c : Thread nD τ) a6 fullShare d) ∗ half c tabM T
        ∗ (iprop(owns (c : Thread nD τ) a2 fullShare x2 ∗ owns (c : Thread nD τ) a3 fullShare x3
            ∗ owns (c : Thread nD τ) a4 fullShare x4 ∗ owns (c : Thread nD τ) a5 fullShare x5
            ∗ (∃ d, owns (c : Thread nD τ) a6 fullShare d) ∗ half c tabM T) -∗ K ⟨⟩))
      ⊢ wp frame (wpE (defs₀ (F := F)) Variants.none c none) E
          (cc0__body i tabM (Memref.isWhole_whole _) a2 h2 a3 h3 a4 h4 a5 h5 a6 h6) K := by
  simp only [cc0__body_eq_skeleton]; unfold cc0__body_skel
  simp only [k0_part1_eq_skeleton]
  unfold owns
  iintro ⟨⟨%f2, %e2, H2⟩, ⟨%f3, %e3, H3⟩, ⟨%f4, %e4, H4⟩, ⟨%f5, %e5, H5⟩, ⟨%d6, %f6, -, H6⟩, HT, Hk⟩
  sl_exec
  sl_step
  iapply Hk
  isplitl [H2]
  · iexists _; isplitr
    · ipureintro; exact e2
    iexact H2
  isplitl [H3]
  · iexists _; isplitr
    · ipureintro; exact e3
    iexact H3
  isplitl [H4]
  · iexists _; isplitr
    · ipureintro; exact e4
    iexact H4
  isplitl [H5]
  · iexists _; isplitr
    · ipureintro; exact e5
    iexact H5
  isplitl [H6]
  · iexists _, _; isplitr; swap; · iexact H6
    ipureintro; rfl
  iexact HT

variable (m : (ℓ : Loc nD τ sig) → Buf (Elt F) ℓ) (ρ : Dev nD → PrngReg)

/-- The window nothing is said of: the output's. -/
def unsaid : Fin 5 → Bool := fun w => w.val == 4

/-- The word a staging block is completed by outside its array; any word does. -/
def zw : F .f32 := Scalar.ofBits .f32 0x00000000#32

/-- The pipeline's proof data on core `c`: arrays as the region finds them, the inputs' blocks kept, the two windows on
    one array each holding its part of that array's share. -/
def data (hO : ok0 (F := F) (tbl m)) (_ : Fin 1) (c : Dev nD) : Dat τ (Elt F) Unit ℕ (UR sig nD τ) ℕ (pl m hO) c where
  A w := entry m c (Pipeline.arrRef spec0 w)
  after w t := match w with
    | ⟨0, _⟩ => blkAt m hO c 0 t
    | ⟨1, _⟩ => blkAt m hO c 1 t
    | ⟨2, _⟩ => padded m hO c 2 t (zw (F := F))
    | ⟨3, _⟩ => padded m hO c 3 t (zw (F := F))
    | ⟨4, h⟩ => Pipeline.Dat.unnamed (cfg := pl m hO) ⟨4, h⟩ t
  Φ _ := iprop(Pipeline.ΦA spec0 c ∗ Pipeline.ΦT pre0 (tbl m) c)
  q w := Pipeline.shareOf spec0 w
  owed _ := 0

theorem data_A (hO : ok0 (F := F) (tbl m)) (c : Dev nD) (w : Fin (pl m hO).W) :
    (data m hO 0 c).A w = entry m c (Pipeline.arrRef spec0 w) := by dsimp only [data]

theorem after0 (hO : ok0 (F := F) (tbl m)) (c : Dev nD) (t : Fin (pl m hO).N) :
    (data m hO 0 c).after 0 t = blkAt m hO c 0 t := by dsimp only [data]; try rfl
theorem after1 (hO : ok0 (F := F) (tbl m)) (c : Dev nD) (t : Fin (pl m hO).N) :
    (data m hO 0 c).after 1 t = blkAt m hO c 1 t := by dsimp only [data]; try rfl
theorem after2 (hO : ok0 (F := F) (tbl m)) (c : Dev nD) (t : Fin (pl m hO).N) :
    (data m hO 0 c).after 2 t = padded m hO c 2 t (zw (F := F)) := by dsimp only [data]; try rfl
theorem after3 (hO : ok0 (F := F) (tbl m)) (c : Dev nD) (t : Fin (pl m hO).N) :
    (data m hO 0 c).after 3 t = padded m hO c 3 t (zw (F := F)) := by dsimp only [data]; try rfl

/-- An input's buffer before the body at each point, whatever it held outside the array's part. -/
theorem before0 (hO : ok0 (F := F) (tbl m)) (c : Dev nD) (t : Fin (pl m hO).N) (d) :
    (data m hO 0 c).before 0 t d = blkAt m hO c 0 t :=
  before_uncut0 (data m hO 0 c) (data_A m hO c 0) (after0 m hO c) t d
theorem before1 (hO : ok0 (F := F) (tbl m)) (c : Dev nD) (t : Fin (pl m hO).N) (d) :
    (data m hO 0 c).before 1 t d = blkAt m hO c 1 t :=
  before_uncut1 (data m hO 0 c) (data_A m hO c 1) (after1 m hO c) t d
theorem before2 (hO : ok0 (F := F) (tbl m)) (c : Dev nD) (t : Fin (pl m hO).N) (d) :
    (data m hO 0 c).before 2 t d = ((pl m hO).win 2).fill ((pl m hO).grid.coords t) d (blkAt m hO c 2 t) :=
  before_cut2 (data m hO 0 c) (data_A m hO c 2) _ (after2 m hO c) t d
theorem before3 (hO : ok0 (F := F) (tbl m)) (c : Dev nD) (t : Fin (pl m hO).N) (d) :
    (data m hO 0 c).before 3 t d = ((pl m hO).win 3).fill ((pl m hO).grid.coords t) d (blkAt m hO c 3 t) :=
  before_cut3 (data m hO 0 c) (data_A m hO c 3) _ (after3 m hO c) t d

/-- The matrix's and the bias's buffers after the body hold their blocks on the part inside the array. -/
theorem cut2 (hO : ok0 (F := F) (tbl m)) (c : Dev nD) (t : Fin (pl m hO).N) :
    ((pl m hO).win 2).cut ((pl m hO).grid.coords t) ((data m hO 0 c).after 2 t) = blkAt m hO c 2 t := by
  rw [after2]; unfold padded; exact Window.cut_fill _ _ _ _
theorem cut3 (hO : ok0 (F := F) (tbl m)) (c : Dev nD) (t : Fin (pl m hO).N) :
    ((pl m hO).win 3).cut ((pl m hO).grid.coords t) ((data m hO 0 c).after 3 t) = blkAt m hO c 3 t := by
  rw [after3]; unfold padded; exact Window.cut_fill _ _ _ _

/-- What the body at point `t` is called with, window by window, -/
def given (hO : ok0 (F := F) (tbl m)) (c : Dev nD) (t : Fin (pl m hO).N) : sProp 𝕄 :=
  iprop((data m hO 0 c).Φ t.castSucc ∗ (data m hO 0 c).owesAt () t.castSucc
    ∗ (∃ d, owns (c : Thread nD τ) (spec0_0.stage ((pl m hO).slots t 0)) fullShare ((data m hO 0 c).before 0 t d))
    ∗ (∃ d, owns (c : Thread nD τ) (spec0_1.stage ((pl m hO).slots t 1)) fullShare ((data m hO 0 c).before 1 t d))
    ∗ (∃ d, owns (c : Thread nD τ) (spec0_2.stage ((pl m hO).slots t 2)) fullShare ((data m hO 0 c).before 2 t d))
    ∗ (∃ d, owns (c : Thread nD τ) (spec0_3.stage ((pl m hO).slots t 3)) fullShare ((data m hO 0 c).before 3 t d))
    ∗ (∃ d, owns (c : Thread nD τ) (spec0_4.stage ((pl m hO).slots t 4)) fullShare d))

/-- and what it returns: a cut window's buffer as the part inside the array completed by something. -/
def returned (hO : ok0 (F := F) (tbl m)) (c : Dev nD) (t : Fin (pl m hO).N) : sProp 𝕄 :=
  iprop((data m hO 0 c).Φ t.succ ∗ (data m hO 0 c).owesAt () t.succ
    ∗ owns (c : Thread nD τ) (spec0_0.stage ((pl m hO).slots t 0)) fullShare ((data m hO 0 c).after 0 t)
    ∗ owns (c : Thread nD τ) (spec0_1.stage ((pl m hO).slots t 1)) fullShare ((data m hO 0 c).after 1 t)
    ∗ (∃ d, owns (c : Thread nD τ) (spec0_2.stage ((pl m hO).slots t 2)) fullShare (((pl m hO).win 2).fill
        ((pl m hO).grid.coords t) d (((pl m hO).win 2).cut ((pl m hO).grid.coords t) ((data m hO 0 c).after 2 t))))
    ∗ (∃ d, owns (c : Thread nD τ) (spec0_3.stage ((pl m hO).slots t 3)) fullShare (((pl m hO).win 3).fill
        ((pl m hO).grid.coords t) d (((pl m hO).win 3).cut ((pl m hO).grid.coords t) ((data m hO 0 c).after 3 t))))
    ∗ (∃ d, owns (c : Thread nD τ) (spec0_4.stage ((pl m hO).slots t 4)) fullShare d))

/-- The body at any point of the grid. -/
theorem body_at (hO : ok0 (F := F) (tbl m)) (c : Dev nD) (t : Fin (pl m hO).N) :
    given m hO c t ⊢ wp frame (wpE (defs₀ (F := F)) Variants.none c none) Set.univ (bodyAt m hO t) (fun _ => returned m hO c t) := by
  unfold given returned bodyAt
  simp only [before0, before1, before2, before3]
  rw [show (data m hO 0 c).Φ t.succ = (data m hO 0 c).Φ t.castSucc from rfl,
    show (data m hO 0 c).owesAt () t.succ = (data m hO 0 c).owesAt () t.castSucc from rfl, after0, after1, cut2, cut3]
  rw [show (data m hO 0 c).Φ t.castSucc = iprop(Pipeline.ΦA spec0 c ∗ Pipeline.ΦT pre0 (tbl m) c) from rfl, tables_eq]
  iintro ⟨⟨HΦ, HT⟩, Ho, ⟨%d0, H0⟩, ⟨%d1, H1⟩, ⟨%d2, H2⟩, ⟨%d3, H3⟩, ⟨%d4, H4⟩⟩
  iapply (body_keeps c (grid0.coords t) _ _ _ _ _ _ _ _ _ _ (blkAt m hO c 0 t) (blkAt m hO c 1 t) _ _ (tbl m 0) Set.univ _)
  isplitl [H0]; · iexact H0
  isplitl [H1]; · iexact H1
  isplitl [H2]; · iexact H2
  isplitl [H3]; · iexact H3
  isplitl [H4]; · iexists _; iexact H4
  isplitl [HT]; · iexact HT
  iintro ⟨H0, H1, H2, H3, H4, HT⟩
  isplitl [HΦ HT]
  · isplitl [HΦ]
    · iexact HΦ
    iexact HT
  isplitl [Ho]; · iexact Ho
  isplitl [H0]; · iexact H0
  isplitl [H1]; · iexact H1
  isplitl [H2]; · iexists d2; iexact H2
  isplitl [H3]; · iexists d3; iexact H3
  iexact H4

/-- The body obligation at every point, the output's window forgotten. -/
theorem obligation (hO : ok0 (F := F) (tbl m)) (c : Dev nD) :
    BodyObligationLoose (data (F := F) m hO 0 c) (defs₀ (F := F)) Variants.none () Set.univ unsaid := fun t => by
  rw [bigSep_W0, bigSep_W0, called m hO]
  exact triple_restated (body_at m hO c t) rfl .rfl fun _ => .rfl

set_option backward.isDefEq.respectTransparency.types false in
/-- The launch: every run ends with the pipeline's inputs and every other buffer as the region found them and every
    counter at zero. -/
theorem run (hO : ok0 (F := F) (tbl m)) : θ_run defs (onTc (τ := τ) (main (F := F))) (s₀ m ρ)
    (fun r => Pipeline.RDat.FramePost ((Pipeline.pin pcfgs fun _ => adm m hO) 0) (fun c => (data m hO 0 c).toRForget unsaid) (entry m) r
      ∧ r.2.sem = fun _ => 0) :=
  Pipeline.θ_run_frameP_forget_shared (Q' := _) pcfgs (fun _ => adm m hO) (data m hO) (0 : Fin 1) launch₀0 defs₀ Variants.none unsaid m ρ main
    (hbody := fun c => obligation m hO c) (hq := fun _ _ _ => rfl) (howed := fun _ _ => rfl) (V := entry m)
    (hmain := main_enters m Variants.none) (hA := data_A m hO) (hpf := entry_tbl m) (hΦ := fun _ _ => rfl)

/-- The frame: from a table that places both windows inside their array, the program runs, its four arguments end
    unchanged and every counter ends at zero. -/
theorem frame_of_table (hO : ok0 (F := F) (tbl m)) : θ_run defs (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ ⟨h, hz⟩ => ⟨fun c =>
      ⟨((h c).2 main_arg0 (by decide : main_arg0 ∈ Pipeline.restRefs sig spec0)).trans (entry_arg0 m c),
       ((h c).2 main_arg1 (by decide : main_arg1 ∈ Pipeline.restRefs sig spec0)).trans (entry_arg1 m c),
       ((h c).2 main_arg2 (by decide : main_arg2 ∈ Pipeline.restRefs sig spec0)).trans (entry_arg2 m c),
       (Pipeline.RDat.FramePost.arr_in h c 3 rfl).trans ((data_A m hO c 3).trans (entry_arg3 m c))⟩, hz⟩) (run m ρ hO)

end Cert.Kernel.Own

end
-- ==== Proof.Words.lean ====
/- The two table words under the precondition, and the scalar arithmetic both programs do on such a word: its floor
   quotient and its floor remainder by 128, computed with the signed corrections, are the natural ones. -/
module

public import proofs.«01_k».proof.Proof.Gen.Pre_in_vocab
public import Idealize.ShloMosaic.Lib.Routing.Words
public import Idealize.ShloMosaic.Lib.StableHlo.Predicate
public import Idealize.ShloMosaic.Lib.ReduceAll
public import Idealize.ShloMosaic.Lib.Affine

@[expose] public section

namespace Cert.Words

open Idealize.ShloMosaic

/-- A word is the word of its own value. -/
theorem ofNat_self (x : BitVec 32) : BitVec.ofNat 32 x.toNat = x := by simp

/-- A small word is not below zero. -/
theorem not_neg (n : ℕ) (h : n < 2 ^ 31) : Scalar.cmpi .slt (BitVec.ofNat 32 n) 0#32 = 0#1 := by
  rcases BitVec.eq_zero_or_eq_one (Scalar.cmpi .slt (BitVec.ofNat 32 n) 0#32) with e | e
  · exact e
  · have := (StableHlo.Predicate.slt_iff_toNat (a := BitVec.ofNat 32 n) (b := 0#32)
      (by rw [BitVec.toNat_ofNat]; omega) (by decide)).mp e
    simp at this

/-- The quotient with its correction for signs, at a small word: the natural quotient by 128. -/
theorem floor_quot (x : BitVec 32) (n : ℕ) (h : n < 2 ^ 31) (e : x = BitVec.ofNat 32 n) :
    Scalar.select
      (Scalar.andi
        (Scalar.cmpi .ne
          (Scalar.subi (Scalar.extui (Scalar.cmpi .sgt x 0#32))
            (Scalar.extui (Scalar.cmpi .slt x 0#32)))
          (Scalar.subi (Scalar.extui (Scalar.cmpi .sgt 128#32 0#32)) (Scalar.extui (Scalar.cmpi .slt 128#32 0#32))))
        (Scalar.cmpi .ne (Scalar.remsi x 128#32) 0#32))
      (Scalar.subi (Scalar.divsi x 128#32) 1#32)
      (Scalar.divsi x 128#32) = BitVec.ofNat 32 (n / 128) := by
  subst e
  have hq : Scalar.divsi (BitVec.ofNat 32 n) 128#32 = BitVec.ofNat 32 (n / 128) :=
    Routing.divsi_word _ h (by decide) (by decide)
  have hr : Scalar.remsi (BitVec.ofNat 32 n) 128#32 = BitVec.ofNat 32 (n % 128) :=
    Routing.remsi_word _ h (by decide) (by decide)
  rw [hq, hr, not_neg n h]
  rcases Nat.eq_zero_or_pos n with rfl | hn
  · decide
  · have hs : Scalar.cmpi .sgt (BitVec.ofNat 32 n) 0#32 = 1#1 :=
      (StableHlo.Predicate.sgt_iff_toNat (by rw [BitVec.toNat_ofNat]; omega) (by decide)).mpr
        (by
          have e : (BitVec.ofNat 32 n).toNat = n := by rw [BitVec.toNat_ofNat, Nat.mod_eq_of_lt (by omega)]
          rw [e]; exact hn)
    rw [hs]
    have hz : Scalar.cmpi .ne (Scalar.subi (Scalar.extui 1#1) (Scalar.extui 0#1))
        (Scalar.subi (Scalar.extui (Scalar.cmpi .sgt 128#32 0#32)) (Scalar.extui (Scalar.cmpi .slt 128#32 0#32))) = 0#1 := by
      decide
    rw [hz]
    have ha : ∀ b : BitVec 1, Scalar.andi 0#1 b = 0#1 := by decide
    rw [ha]; rfl

/-- The remainder with its correction for signs, at a small word: the natural remainder by 128. -/
theorem floor_rem (x : BitVec 32) (n : ℕ) (h : n < 2 ^ 31) (e : x = BitVec.ofNat 32 n) :
    Scalar.select
      (Scalar.andi
        (Scalar.xori
          (Scalar.cmpi .slt (Scalar.remsi x (Scalar.select (Scalar.cmpi .eq 128#32 0#32) 1#32 128#32)) 0#32)
          (Scalar.cmpi .slt (Scalar.select (Scalar.cmpi .eq 128#32 0#32) 1#32 128#32) 0#32))
        (Scalar.cmpi .ne (Scalar.remsi x (Scalar.select (Scalar.cmpi .eq 128#32 0#32) 1#32 128#32)) 0#32))
      (Scalar.addi (Scalar.remsi x (Scalar.select (Scalar.cmpi .eq 128#32 0#32) 1#32 128#32))
        (Scalar.select (Scalar.cmpi .eq 128#32 0#32) 1#32 128#32))
      (Scalar.remsi x (Scalar.select (Scalar.cmpi .eq 128#32 0#32) 1#32 128#32)) = BitVec.ofNat 32 (n % 128) := by
  subst e
  have hs : Scalar.select (Scalar.cmpi .eq 128#32 0#32) 1#32 128#32 = 128#32 := by decide
  have hr : Scalar.remsi (BitVec.ofNat 32 n) 128#32 = BitVec.ofNat 32 (n % 128) :=
    Routing.remsi_word _ h (by decide) (by decide)
  rw [hs, hr, not_neg _ (by omega)]
  have hx : Scalar.xori 0#1 (Scalar.cmpi .slt 128#32 0#32) = 0#1 := by decide
  have ha : ∀ b : BitVec 1, Scalar.andi 0#1 b = 0#1 := by decide
  rw [hx, ha]; rfl

/-- The precondition decoded: each of the table's two words is a natural below the vocabulary's size. -/
theorem below {F : FTy → Type} [FloatOps F] (a0 : IVec Cert.Pre_in_vocab.S2 32) (a1 : FVec F Cert.Pre_in_vocab.S1000000x16 .f32)
    (a2 : FVec F Cert.Pre_in_vocab.S1000000x32 .f32) (a3 : FVec F Cert.Pre_in_vocab.S1000000 .f32)
    [Cert.Pre_in_vocab.Facts] (h : Cert.Pre_in_vocab.fn a0 a1 a2 a3 = fun _ => 1#1) (i : Cert.Pre_in_vocab.S2.Idx) :
    (a0 i).toNat < 1000000 := by
  have e := congrFun h (fun a => a.elim0)
  haveI : Subsingleton Cert.Pre_in_vocab.S_.Idx := ⟨fun x y => funext fun a => a.elim0⟩
  have e1 := Host.reduce_andi_all _ _ _ _ _ e i
  have e2 := IntOp.andi_eq_one.mp e1
  have hlo : (0 : ℤ) ≤ (a0 i).toInt := by
    have := e2.1
    simp only [cmpi, IntOp.cmpi, StableHlo.Predicate.ofBool_eq_one_iff, BitVec.sle, decide_eq_true_eq] at this
    exact this
  have hhi : (a0 i).toInt < 1000000 := by
    have := e2.2
    simp only [cmpi, IntOp.cmpi, StableHlo.Predicate.ofBool_eq_one_iff, BitVec.slt, decide_eq_true_eq] at this
    exact this
  rw [BitVec.toInt_eq_toNat_cond] at hlo hhi
  split at hlo <;> omega

end Cert.Words
-- ==== Proof.KernelFrame.lean ====
/- The frame claim of `Kernel`: under the precondition the table is one the region admits, so the run applies. -/
module

public import proofs.«01_k».proof.Defs
public import proofs.«01_k».proof.Proof.KernelRun
public import proofs.«01_k».proof.Proof.KernelTable

@[expose] public section

namespace Cert.Kernel.Own

open Cert.Kernel Cert.Kernel.Gen
open Idealize.ShloMosaic Idealize.ShloMosaic.TcCoe

/-- The precondition bounds the table's words. -/
theorem ctx_lt (m : (ℓ : Loc nD τ sig) → Buf (Elt Bits) ℓ) (h : Cert.Pre_Kernel m) (j : Fin 2) : ctx m j < 1000000 :=
  Words.below _ _ _ _ (h 0) (at_ j)

/-- `Kernel` runs, leaves its arguments unchanged and ends with every counter at zero, under the precondition. -/
theorem frame_claim : Cert.quiescent_Kernel := fun m g h => frame_of_table m g (ok_of_ctx m (ctx_lt m h))

end Cert.Kernel.Own
-- ==== Proof.IdealEntry.lean ====
/- `KernelIdeal` up to its one pipelined region, at any values: the memory the region finds, the words of the
   prefetched table as the pipeline's admissible contents, each window's block read off its array, and that an
   input's staging buffer holds its block inside the array at every point of the grid. -/
module

public import proofs.«01_k».proof.Proof.Gen.KernelIdeal.Launch
public import proofs.«01_k».proof.Proof.Gen.KernelIdeal.Loops
public import Idealize.ShloMosaic.Lib.Pipeline.FrameBody
public import Idealize.ShloMosaic.Lib.Ring
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The memory the region finds -/

/-- Core `c`'s buffers when the region is entered: the launch memory after the transposes and the padding. -/
abbrev entry (c : Dev nD) (b : Ref sig .tc) : Buf (Elt F) ((c : Thread nD τ).loc b) :=
  StableHlo.after (List.flatten [hostOps0, hostOps0_1]) (fun b => m (c, b)) b

/-- The first stretch of host operations draws nothing fresh. -/
theorem fresh_first : (hostOps0 : List (HloOp τ sig (Elt F))).Forall fun op => op.fresh = ∅ := by
  simp only [List.Forall]; repeat' constructor
/-- Nor does the padding. -/
theorem fresh_second : (hostOps0_1 : List (HloOp τ sig (Elt F))).Forall fun op => op.fresh = ∅ := by
  simp only [List.Forall]; repeat' constructor

set_option maxHeartbeats 800000 in
/-- The program runs its host operations and then enters the region with the buffers at `entry`. -/
theorem main_enters (𝒱₀ : Variants) :
    Pipeline.HMainP (Ix := Unit) (Name := ℕ) (U := UR sig nD τ) (Lvl := ℕ) pcfgs 0 defs₀ 𝒱₀ m (main (F := F)) (entry m) :=
  Pipeline.hmainP_prefixes pcfgs 0 defs₀ 𝒱₀ m main [hostOps0, hostOps0_1]
    (by simp only [List.Forall]; exact ⟨hostOps0_sub, hostOps0_1_sub⟩)
    (by simp only [List.Forall]; exact ⟨fresh_first, fresh_second⟩) main_chain

/-- A buffer none of the five host operations writes is found as launched. -/
theorem entry_untouched (c : Dev nD) (b : Ref sig .tc) (h0 : b ≠ main_v0) (h1 : b ≠ main_v1) (h2 : b ≠ main_c)
    (h3 : b ≠ main_call0_v0) (h4 : b ≠ main_v2) : entry m c b = m ((c : Thread nD τ).loc b) :=
  StableHlo.after_of_forall_not_mem (b := Proc.devRef .tc b) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes,
      Finset.mem_singleton]
    exact ⟨StableHlo.devRef_ne_of_ne h0, StableHlo.devRef_ne_of_ne h1, StableHlo.devRef_ne_of_ne h2,
      StableHlo.devRef_ne_of_ne h3, StableHlo.devRef_ne_of_ne h4⟩))

theorem entry_arg0 (c : Dev nD) : entry m c main_arg0 = m ((c : Thread nD τ).loc main_arg0) :=
  entry_untouched m c _ (by decide) (by decide) (by decide) (by decide) (by decide)
theorem entry_arg1 (c : Dev nD) : entry m c main_arg1 = m ((c : Thread nD τ).loc main_arg1) :=
  entry_untouched m c _ (by decide) (by decide) (by decide) (by decide) (by decide)
theorem entry_arg2 (c : Dev nD) : entry m c main_arg2 = m ((c : Thread nD τ).loc main_arg2) :=
  entry_untouched m c _ (by decide) (by decide) (by decide) (by decide) (by decide)
theorem entry_arg3 (c : Dev nD) : entry m c main_arg3 = m ((c : Thread nD τ).loc main_arg3) :=
  entry_untouched m c _ (by decide) (by decide) (by decide) (by decide) (by decide)

/-! ## The prefetched table -/

/-- The table's contents at the region's entry, on the one device. -/
def tbl : pre0.Contents (Elt F) := fun j => entry m (0 : Dev nD) (pre0.ref j)
/-- Every device's table is that one, there being one device. -/
theorem entry_tbl (c : Dev nD) (j : Fin 1) : entry m c (pre0.ref j) = tbl m j := by
  obtain rfl : c = 0 := Subsingleton.elim _ _; rfl

/-- The table as admissible contents, both windows it places lying inside the padded array. -/
abbrev adm (hO : ok0 (F := F) (tbl m)) : (pcfg0 (F := F)).Adm := ⟨tbl m, hO⟩
/-- The pipeline at that table. -/
abbrev pl (hO : ok0 (F := F) (tbl m)) : Pipeline.Cfg sig Λ₀ := cfg0 (adm m hO)

/-- The table's buffer as the body is handed it. -/
abbrev tabM : Memref sig .tc .smem S2 .i32 := Memref.whole main_arg0
/-- Contents of a memref's buffer on core `c`. -/
abbrev Held (c : Dev nD) {S : Shape} {e : EltTy} (M : Memref sig .tc .smem S e) : Type :=
  Buf (Elt F) (M.view.loc (c : Thread nD τ))
/-- A table held at half the share, the pipeline keeping the other half. -/
abbrev half (c : Dev nD) {S : Shape} {e : EltTy} (M : Memref sig .tc .smem S e) (f : Held (F := F) c M) : sProp 𝕄 :=
  M.view.loc (c : Thread nD τ) ↦{fullShare.right} f

/-- What the region hands the body of the tables is the one table's half. -/
theorem tables_eq (c : Dev nD) : (Pipeline.ΦT pre0 (tbl m) c : sProp 𝕄) = half c tabM (tbl m 0) := by
  unfold Pipeline.ΦT Pipeline.prefHeld
  rw [show (Finset.univ : Finset (Fin 1)) = {(0 : Fin 1)} from by decide, bigSep_singleton]
  rfl

/-! ## The windows' blocks -/

/-- Window `w`'s block at point `t`, the part of it inside the array, as the region finds the array. -/
def blkAt (hO : ok0 (F := F) (tbl m)) (c : Dev nD) (w : Fin (pl m hO).W) (t : Fin (pl m hO).N) :
    (((pl m hO).win w).xblock ((pl m hO).grid.coords t)).Idx → Elt F ((pl m hO).win w).elt :=
  (((pl m hO).win w).blk t).view.read (Elt F) (entry m c (Pipeline.arrRef spec0 w))

/-- A whole staging block from its part inside the array, the rest at the zero word. -/
def padded (hO : ok0 (F := F) (tbl m)) (c : Dev nD) (w : Fin (pl m hO).W) (t : Fin (pl m hO).N)
    (z : Elt F ((pl m hO).win w).elt) : ((pl m hO).win w).block.Idx → Elt F ((pl m hO).win w).elt :=
  ((pl m hO).win w).fill ((pl m hO).grid.coords t) (fun _ => z) (blkAt m hO c w t)

/-- The kernel function on point `t`'s staging buffers. -/
abbrev bodyAt (hO : ok0 (F := F) (tbl m)) (t : Fin (pl m hO).N) : Prog (TpuEff nD τ sig (Elt F) Λ₀ .tc) PUnit :=
  cc0__body (grid0.coords t) tabM (Memref.isWhole_whole _)
    (spec0_0.stage ((pl m hO).slots t 0)) (hstage0_0 (((pl m hO).slots t 0).cast nbuf0_0))
    (spec0_1.stage ((pl m hO).slots t 1)) (hstage0_1 (((pl m hO).slots t 1).cast nbuf0_1))
    (spec0_2.stage ((pl m hO).slots t 2)) (hstage0_2 (((pl m hO).slots t 2).cast nbuf0_2))
    (spec0_3.stage ((pl m hO).slots t 3)) (hstage0_3 (((pl m hO).slots t 3).cast nbuf0_3))
    (spec0_4.stage ((pl m hO).slots t 4)) (hstage0_4 (((pl m hO).slots t 4).cast nbuf0_4))

/-- It is what the pipeline calls at that point's slots. -/
theorem called (hO : ok0 (F := F) (tbl m)) (t : Fin (pl m hO).N) :
    defs₀ (F := F) .tc (pl m hO).body ((pl m hO).bodyArgs t ((pl m hO).slots t)) = bodyAt m hO t := by
  unfold defs₀; rw [Defs.onTc_tc]

variable {m}

/-- The first two windows are uncut. -/
theorem before_uncut0 {hO : ok0 (F := F) (tbl m)} {c : Dev nD} (dat : Dat τ (Elt F) Unit ℕ (UR sig nD τ) ℕ (pl m hO) c)
    (hA : dat.A 0 = entry m c (Pipeline.arrRef spec0 0)) (hk : ∀ t, dat.after 0 t = blkAt m hO c 0 t)
    (t : Fin (pl m hO).N) (d) : dat.before 0 t d = blkAt m hO c 0 t :=
  (dat.before_in_eq_fetched 0 rfl (fun _ => rfl) (fun _ _ _ => rfl)
    (fun t => by rw [hk]; unfold Dat.blockOf blkAt; rw [hA]; try rfl) t d).trans
    (by unfold Dat.fetched Dat.blockOf blkAt; rw [hA]; try rfl)
/-- The second, the same. -/
theorem before_uncut1 {hO : ok0 (F := F) (tbl m)} {c : Dev nD} (dat : Dat τ (Elt F) Unit ℕ (UR sig nD τ) ℕ (pl m hO) c)
    (hA : dat.A 1 = entry m c (Pipeline.arrRef spec0 1)) (hk : ∀ t, dat.after 1 t = blkAt m hO c 1 t)
    (t : Fin (pl m hO).N) (d) : dat.before 1 t d = blkAt m hO c 1 t :=
  (dat.before_in_eq_fetched 1 rfl (fun _ => rfl) (fun _ _ _ => rfl)
    (fun t => by rw [hk]; unfold Dat.blockOf blkAt; rw [hA]; try rfl) t d).trans
    (by unfold Dat.fetched Dat.blockOf blkAt; rw [hA]; try rfl)
/-- The matrix's window holds its block on the part inside the array and whatever it held elsewhere. -/
theorem before_cut2 {hO : ok0 (F := F) (tbl m)} {c : Dev nD} (dat : Dat τ (Elt F) Unit ℕ (UR sig nD τ) ℕ (pl m hO) c)
    (hA : dat.A 2 = entry m c (Pipeline.arrRef spec0 2)) (z) (hk : ∀ t, dat.after 2 t = padded m hO c 2 t z)
    (t : Fin (pl m hO).N) (d) :
    dat.before 2 t d = ((pl m hO).win 2).fill ((pl m hO).grid.coords t) d (blkAt m hO c 2 t) :=
  (dat.before_in_eq_fetched 2 rfl (fun _ => rfl)
    (fun t t' h => funext fun a => congrArg (fun v => Pipeline.Clip.of v (S32x204800.size a) (S32x1000000.size a)) (congrFun h a))
    (fun t => by rw [hk]; unfold padded; rw [Window.cut_fill]; unfold Dat.blockOf blkAt; rw [hA]; rfl) t d).trans
    (by unfold Dat.fetched Dat.blockOf blkAt; rw [hA]; rfl)
/-- The bias's window, the same. -/
theorem before_cut3 {hO : ok0 (F := F) (tbl m)} {c : Dev nD} (dat : Dat τ (Elt F) Unit ℕ (UR sig nD τ) ℕ (pl m hO) c)
    (hA : dat.A 3 = entry m c (Pipeline.arrRef spec0 3)) (z) (hk : ∀ t, dat.after 3 t = padded m hO c 3 t z)
    (t : Fin (pl m hO).N) (d) :
    dat.before 3 t d = ((pl m hO).win 3).fill ((pl m hO).grid.coords t) d (blkAt m hO c 3 t) :=
  (dat.before_in_eq_fetched 3 rfl (fun _ => rfl)
    (fun t t' h => funext fun a => congrArg (fun v => Pipeline.Clip.of v (S204800.size a) (S1000000.size a)) (congrFun h a))
    (fun t => by rw [hk]; unfold padded; rw [Window.cut_fill]; unfold Dat.blockOf blkAt; rw [hA]; rfl) t d).trans
    (by unfold Dat.fetched Dat.blockOf blkAt; rw [hA]; rfl)

end Cert.KernelIdeal.Own

end
-- ==== Proof.IdealTable.lean ====
/- `KernelIdeal`'s two table-placed windows: each lies at the block its word divided by 128 names, and under the
   precondition that block is inside the padded array at every point of the grid. -/
module

public import proofs.«01_k».proof.Proof.IdealEntry
public import proofs.«01_k».proof.Proof.Words

@[expose] public section

noncomputable section

namespace Cert.KernelIdeal.Own

open Cert.KernelIdeal Cert.KernelIdeal.Gen
open Idealize.ShloMosaic Idealize.ShloMosaic.TcCoe

variable {F : FTy → Type} [FloatOps F]

/-- The table's index of its word `j`. -/
def at_ (j : Fin 2) : S2.Idx := Shape.Idx.ofFin j

/-- A table's first word as the index map reads it. -/
theorem word0 (pf : pre0.Contents (Elt F)) :
    pf.at 0 (Rect.unit (s := S2) ![0] S1.size inb_S2_S1_0) numel1_S1 = pf 0 (at_ 0) :=
  congrArg (pf 0) (funext fun a => by
    match a with
    | ⟨0, _⟩ => exact Fin.ext (by
        have := (Shape.Idx.first (s := S1) (numel1_S1.symm ▸ Nat.one_pos) 0).isLt
        show 0 + 1 * (Shape.Idx.first (s := S1) (numel1_S1.symm ▸ Nat.one_pos) 0).val = 0
        have h : (Shape.Idx.first (s := S1) (numel1_S1.symm ▸ Nat.one_pos) 0).val < 1 := this
        omega))
/-- A table's second word as the index map reads it. -/
theorem word1 (pf : pre0.Contents (Elt F)) :
    pf.at 0 (Rect.unit (s := S2) ![1] S1.size inb_S2_S1_1) numel1_S1 = pf 0 (at_ 1) :=
  congrArg (pf 0) (funext fun a => by
    match a with
    | ⟨0, _⟩ => exact Fin.ext (by
        have := (Shape.Idx.first (s := S1) (numel1_S1.symm ▸ Nat.one_pos) 0).isLt
        show 1 + 1 * (Shape.Idx.first (s := S1) (numel1_S1.symm ▸ Nat.one_pos) 0).val = 1
        have h : (Shape.Idx.first (s := S1) (numel1_S1.symm ▸ Nat.one_pos) 0).val < 1 := this
        omega))

/-- The first window's block index, at a first word that is the small natural `n`. -/
theorem place0 (pf : pre0.Contents (Elt F)) (i : grid0.Coords) (n : ℕ) (h : n < 2 ^ 31)
    (e : pf 0 (at_ 0) = BitVec.ofNat 32 n) : cc0_transform_0 inb_S2_S1_0 numel1_S1 pf i = ![0, n / 128] := by
  have hq := Words.floor_quot _ n h ((word0 pf).trans e)
  refine (congrArg (fun w : BitVec 32 => (![(0#32 : BitVec 32).toNat, w.toNat] : Fin 2 → ℕ)) hq).trans ?_
  have hn : (BitVec.ofNat 32 (n / 128)).toNat = n / 128 := by rw [BitVec.toNat_ofNat]; omega
  rw [hn]; rfl
/-- The second window's, at a second word that is. -/
theorem place1 (pf : pre0.Contents (Elt F)) (i : grid0.Coords) (n : ℕ) (h : n < 2 ^ 31)
    (e : pf 0 (at_ 1) = BitVec.ofNat 32 n) : cc0_transform_1 inb_S2_S1_1 numel1_S1 pf i = ![0, n / 128] := by
  have hq := Words.floor_quot _ n h ((word1 pf).trans e)
  refine (congrArg (fun w : BitVec 32 => (![(0#32 : BitVec 32).toNat, w.toNat] : Fin 2 → ℕ)) hq).trans ?_
  have hn : (BitVec.ofNat 32 (n / 128)).toNat = n / 128 := by rw [BitVec.toNat_ofNat]; omega
  rw [hn]; rfl

/-- A block of 128 columns that starts below the vocabulary's size ends inside the padded array. -/
theorem inside (n : ℕ) (h : n < 1000000) (a : Fin 2) :
    ((![0, n / 128] : Fin 2 → ℕ) a + 1) * S16x128.size a ≤ S16x1000064.size a := by
  match a with
  | ⟨0, _⟩ => show (0 + 1) * 16 ≤ 16; decide
  | ⟨1, _⟩ => show (n / 128 + 1) * 128 ≤ 1000064; omega

/-- Both windows inside the padded array, from the table's words being below the vocabulary's size. -/
theorem ok_of_words (pf : pre0.Contents (Elt F)) (n0 n1 : ℕ) (h0 : n0 < 1000000) (h1 : n1 < 1000000)
    (e0 : pf 0 (at_ 0) = BitVec.ofNat 32 n0) (e1 : pf 0 (at_ 1) = BitVec.ofNat 32 n1) : ok0 (F := F) pf :=
  ⟨fun i => ⟨fun a => by rw [place0 pf i n0 (by omega) e0]; exact inside n0 h0 a, .inl rfl⟩,
   fun i => ⟨fun a => by rw [place1 pf i n1 (by omega) e1]; exact inside n1 h1 a, .inl rfl⟩⟩

variable (m : (ℓ : Loc nD τ sig) → Buf (Elt F) ℓ)

/-- The table at the region's entry is the launched one. -/
theorem tbl_eq : tbl m 0 = m (((0 : Dev nD).tc : Thread nD τ).loc main_arg0) := entry_arg0 m 0

/-- The launched table's two words as naturals. -/
def ctx (j : Fin 2) : ℕ := (m (((0 : Dev nD).tc : Thread nD τ).loc main_arg0) (at_ j) : BitVec 32).toNat

theorem tbl_word0 : tbl m 0 (at_ 0) = BitVec.ofNat 32 (ctx m 0) := by
  rw [tbl_eq]; unfold ctx; exact (Words.ofNat_self _).symm
theorem tbl_word1 : tbl m 0 (at_ 1) = BitVec.ofNat 32 (ctx m 1) := by
  rw [tbl_eq]; unfold ctx; exact (Words.ofNat_self _).symm

/-- Words below the vocabulary's size give a table the region admits. -/
theorem ok_of_ctx (h : ∀ j, ctx m j < 1000000) : ok0 (F := F) (tbl m) :=
  ok_of_words (tbl m) _ _ (h 0) (h 1) (tbl_word0 m) (tbl_word1 m)

end Cert.KernelIdeal.Own

end
-- ==== Proof.IdealColumn.lean ====
/- What one output column of `KernelIdeal`'s body is, over exact sums: the two picked table columns against the matrix's
   column, plus the bias. -/
module

public import proofs.«01_k».proof.Proof.IdealTable
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe

/-- The lane that the word `n` picks of a block of 128. -/
def lane (n : ℕ) : Fin 128 := ⟨n % 128, Nat.mod_lt _ (by decide)⟩

/-- A lane's number compared with the picked one. -/
theorem lane_is (n : ℕ) (l : Fin 128) :
    IntOp.cmpi .eq (BitVec.ofNat 32 l.val) (BitVec.ofNat 32 (n % 128)) = if l = lane n then 1#1 else 0#1 := by
  have hl := l.isLt
  have hn : n % 128 < 128 := Nat.mod_lt _ (by decide)
  by_cases h : l = lane n
  · have hv : l.val = n % 128 := congrArg Fin.val h
    rw [if_pos h, hv]; simp [IntOp.cmpi]
  · have hv : l.val ≠ n % 128 := fun e => h (Fin.ext e)
    have hw : BitVec.ofNat 32 l.val ≠ BitVec.ofNat 32 (n % 128) := fun e => hv (by
      have := congrArg BitVec.toNat e
      rwa [BitVec.toNat_ofNat, BitVec.toNat_ofNat, Nat.mod_eq_of_lt (by omega), Nat.mod_eq_of_lt (by omega)] at this)
    rw [if_neg h]; show BitVec.ofBool (BitVec.ofNat 32 l.val == BitVec.ofNat 32 (n % 128)) = 0#1
    rw [beq_eq_false_iff_ne.mpr hw]; rfl

/-- The sum over the lanes of a row masked to the picked lane is that lane's element. -/
theorem picked (n : ℕ) (f : Fin 128 → EReal) :
    ∑ l : Fin 128, Scalar.select (if l = lane n then 1#1 else 0#1) (f l) 0 = f (lane n) := by
  rw [Finset.sum_eq_single (lane n)]
  · simp [Scalar.select]
  · intro l _ h; simp [Scalar.select, h]
  · intro h; exact absurd (Finset.mem_univ _) h

/-- The first half of the activation: the picked lane of the first table block. -/
theorem first_half (v0 : BitVec 32) (n : ℕ) (h : n < 2 ^ 31) (e : v0 = BitVec.ofNat 32 n)
    (x : Vec Ideal S16x128 .f32) (j : S16x1.Idx) :
    k0_pay2 (F := Ideal) v0 x j = x (ix2 (j 0) (lane n)) := by
  unfold k0_pay2
  pointwise
  rw [Words.floor_rem v0 n h e]
  simp only [lane_is]
  exact picked n fun l => x (ix2 (j 0) l)

/-- The second half's mask: the lane the second word picks. -/
theorem second_mask (v0 : BitVec 32) (n : ℕ) (h : n < 2 ^ 31) (e : v0 = BitVec.ofNat 32 n) (a : Fin 1) (l : Fin 128) :
    k0_pay4 (F := Ideal) v0 (ix2 a l) = if l = lane n then 1#1 else 0#1 := by
  unfold k0_pay4
  pointwise
  rw [Words.floor_rem v0 n h e]
  exact lane_is n l

/-- One output element, from the two table blocks, the matrix's column and the bias's element. -/
def column (n0 n1 : ℕ) (x y : Vec Ideal S16x128 .f32) (w : Fin 32 → EReal) (b : EReal) : EReal :=
  (∑ k : Fin 16, w ⟨k.val, by omega⟩ * x (ix2 k (lane n0)))
    + (∑ k : Fin 16, w ⟨16 + k.val, by omega⟩ * y (ix2 k (lane n1))) + b

/-- A chunk's payload at a column. -/
theorem chunk_column (v0 v1 : BitVec 32) (n0 n1 : ℕ) (h0 : n0 < 2 ^ 31) (h1 : n1 < 2 ^ 31)
    (e0 : v0 = BitVec.ofNat 32 n0) (e1 : v1 = BitVec.ofNat 32 n1) (x y : Vec Ideal S16x128 .f32)
    (w : Vec Ideal S32x4096 .f32) (b : Vec Ideal S4096 .f32) (j : S1x4096.Idx) :
    k0_pay1 (F := Ideal) (k0_pay2 v0 x) (k0_pay3 y) (Scalar.ofBits .f32 0x00000000#32) (k0_pay4 (F := Ideal) v1) w b j
      = column n0 n1 x y (fun k => w (ix2 k (j 1))) (b (ix1 (j 1))) := by
  unfold k0_pay1 k0_pay3 column
  pointwise
  simp only [first_half v0 n0 h0 e0, second_mask v1 n1 h1 e1]
  refine congrArg (· + b (ix1 (j 1))) (congrArg₂ (· + ·) rfl (Finset.sum_congr rfl fun k _ => ?_))
  exact congrArg (w (ix2 ⟨16 + k.val, by omega⟩ (j 1)) * ·) (picked n1 fun l => y (ix2 k l))

end Cert.KernelIdeal.Own

end
-- ==== Proof.IdealRun.lean ====
/- `KernelIdeal`'s run over exact sums: what the body's loop leaves in the output's buffer, the body obligation at any
   point of the grid, the launch, and from it that the arguments end unchanged and every counter at zero. -/
module

public import proofs.«01_k».proof.Proof.IdealColumn
public import Idealize.ShloMosaic.Lib.WritesUnit
public import Idealize.ShloMosaic.Lib.VecWindow

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

/-- The loop's trips before `k` leave, at every column of the chunks they wrote, the value `G` of the matrix's column and
    the bias's element there, for any `G` that gives a chunk's payload column by column. -/
theorem chunks_written (c : Dev nD) (i : grid0.Coords)
    (a1 : Memref sig .tc .smem S2 .i32) (h1 : a1.IsWhole)
    (a2 : Memref sig .tc .vmem S16x128 .f32) (h2 : a2.IsWhole) (a3 : Memref sig .tc .vmem S16x128 .f32) (h3 : a3.IsWhole)
    (a4 : Memref sig .tc .vmem S32x204800 .f32) (h4 : a4.IsWhole) (a5 : Memref sig .tc .vmem S204800 .f32) (h5 : a5.IsWhole)
    (a6 : Memref sig .tc .vmem S1x204800 .f32) (h6 : a6.IsWhole)
    (v32 : FVec Ideal S16x1 .f32) (v36 : FVec Ideal S16x128 .f32) (z : Ideal .f32) (v37 : IVec S1x128 1)
    (G : (Fin 32 → EReal) → EReal → EReal)
    (hG : ∀ w b j, k0_pay1 v32 v36 z v37 w b j = G (fun k => w (ix2 k (j 1))) (b (ix1 (j 1))))
    (f4 : BufTy.Contents (Elt Ideal) a4.view.ty) (f5 : BufTy.Contents (Elt Ideal) a5.view.ty)
    (f6 : BufTy.Contents (Elt Ideal) a6.view.ty) (k : ℕ) (hk : k ≤ k0_t1_loop.trips) (j : Fin 204800) (hj : j.val < 4096 * k) :
    a6.view.read (Elt Ideal) (a6.view.writes (Elt Ideal) f6
        (pb_k0_t1 (F := Ideal) Variants.none c none i a1 h1 a2 h2 a3 h3 a4 h4 a5 h5 a6 h6 v32 v36 z v37 f4 f5 k)) (ix2 0 j)
      = G (fun r => a4.view.read (Elt Ideal) f4 (ix2 r j)) (a5.view.read (Elt Ideal) f5 (ix1 j)) := by
  induction k with
  | zero => omega
  | succ k ih =>
    have hlt : k < k0_t1_loop.trips := hk
    rw [pb_k0_t1_succ (F := Ideal) Variants.none c none i a1 h1 a2 h2 a3 h3 a4 h4 a5 h5 a6 h6 v32 v36 z v37 f4 f5 ⟨k, hlt⟩]
    unfold tripL_k0_t1 trip_k0_t1
    dsimp only [List.cons_append, List.nil_append]
    by_cases hm : j.val < 4096 * k
    · exact (View.read_writes_cons_unit_of_not_mem a6.view f6 (size := ![1, 4096]) _ _ _ (ix2 0 j) (k0_off3_eq ⟨k, hlt⟩) 1
        (.inl hm)).trans (ih (by omega) hm)
    · refine (View.read_writes_cons_unit_of_mem a6.view f6 (size := ![1, 4096]) _ _ _ (ix2 0 j)
        (ix2 (0 : Fin 1) (⟨j.val - 4096 * k, by omega⟩ : Fin 4096)) (k0_off3_eq ⟨k, hlt⟩) (fun a => by
          match a with
          | ⟨0, _⟩ => rfl
          | ⟨1, _⟩ => show j.val = 4096 * k + (j.val - 4096 * k); omega)).trans ((hG _ _ _).trans ?_)
      refine congrArg₂ G (funext fun r => congrArg (a4.view.read (Elt Ideal) f4) (funext fun a => Fin.ext ?_))
        (congrArg (a5.view.read (Elt Ideal) f5) (funext fun a => Fin.ext ?_))
      · match a with
        | ⟨0, _⟩ =>
          show k0_off1 ⟨k, hlt⟩ 0 + 1 * r.val = r.val
          rw [k0_off1_eq]; show 0 + 1 * r.val = r.val; omega
        | ⟨1, _⟩ =>
          show k0_off1 ⟨k, hlt⟩ 1 + 1 * (j.val - 4096 * k) = j.val
          rw [k0_off1_eq]; show 4096 * k + 1 * (j.val - 4096 * k) = j.val; omega
      · match a with
        | ⟨0, _⟩ =>
          show k0_off2 ⟨k, hlt⟩ 0 + 1 * (j.val - 4096 * k) = j.val
          rw [k0_off2_eq]; show 4096 * k + 1 * (j.val - 4096 * k) = j.val; omega

/-- Where the body reads the table's first word. -/
theorem first_index :
    (Rect.unit (s := S2) ![0] S1.size inb_S2_S1_0).emb (Shape.Idx.first (s := S1) (numel1_S1.symm ▸ Nat.one_pos)) = at_ 0 :=
  funext fun a => by
    match a with
    | ⟨0, _⟩ => exact Fin.ext (by
        have h : (Shape.Idx.first (s := S1) (numel1_S1.symm ▸ Nat.one_pos) 0).val < 1 :=
          (Shape.Idx.first (s := S1) (numel1_S1.symm ▸ Nat.one_pos) 0).isLt
        show 0 + 1 * (Shape.Idx.first (s := S1) (numel1_S1.symm ▸ Nat.one_pos) 0).val = 0
        omega)
/-- The second word's place. -/
theorem second_index :
    (Rect.unit (s := S2) ![1] S1.size inb_S2_S1_1).emb (Shape.Idx.first (s := S1) (numel1_S1.symm ▸ Nat.one_pos)) = at_ 1 :=
  funext fun a => by
    match a with
    | ⟨0, _⟩ => exact Fin.ext (by
        have h : (Shape.Idx.first (s := S1) (numel1_S1.symm ▸ Nat.one_pos) 0).val < 1 :=
          (Shape.Idx.first (s := S1) (numel1_S1.symm ▸ Nat.one_pos) 0).isLt
        show 1 + 1 * (Shape.Idx.first (s := S1) (numel1_S1.symm ▸ Nat.one_pos) 0).val = 1
        omega)

/-- The loop makes fifty trips. -/
theorem trips_eq : k0_t1_loop.trips = 50 := by decide +kernel

/-- The output's block, from the table's two words and the four other blocks, column by column. -/
def scores (n0 n1 : ℕ) (x2 x3 : Vec Ideal S16x128 .f32) (x4 : Vec Ideal S32x204800 .f32) (x5 : Vec Ideal S204800 .f32) :
    Vec Ideal S1x204800 .f32 :=
  fun j => column n0 n1 x2 x3 (fun r => x4 (ix2 r (j 1))) (x5 (ix1 (j 1)))

set_option maxHeartbeats 1000000 in
/-- The body on whole staging buffers: the inputs' and the table come back as they were, the output's buffer holds the
    scores. -/
theorem body_scores (c : Dev nD) (i : grid0.Coords)
    (a2 : Memref sig .tc .vmem S16x128 .f32) (h2 : a2.IsWhole) (a3 : Memref sig .tc .vmem S16x128 .f32) (h3 : a3.IsWhole)
    (a4 : Memref sig .tc .vmem S32x204800 .f32) (h4 : a4.IsWhole) (a5 : Memref sig .tc .vmem S204800 .f32) (h5 : a5.IsWhole)
    (a6 : Memref sig .tc .vmem S1x204800 .f32) (h6 : a6.IsWhole)
    (x2 x3 : Vec Ideal S16x128 .f32) (x4 : Vec Ideal S32x204800 .f32) (x5 : Vec Ideal S204800 .f32) (T : Held (F := Ideal) c tabM)
    (n0 n1 : ℕ) (l0 : n0 < 2 ^ 31) (l1 : n1 < 2 ^ 31)
    (w0 : T (at_ 0) = BitVec.ofNat 32 n0) (w1 : T (at_ 1) = BitVec.ofNat 32 n1)
    (E : Set ℕ) (K : PUnit → sProp 𝕄) :
    iprop(owns (c : Thread nD τ) a2 fullShare x2 ∗ owns (c : Thread nD τ) a3 fullShare x3
        ∗ owns (c : Thread nD τ) a4 fullShare x4 ∗ owns (c : Thread nD τ) a5 fullShare x5
        ∗ (∃ d, owns (c : Thread nD τ) a6 fullShare d) ∗ half c tabM T
        ∗ (iprop(owns (c : Thread nD τ) a2 fullShare x2 ∗ owns (c : Thread nD τ) a3 fullShare x3
            ∗ owns (c : Thread nD τ) a4 fullShare x4 ∗ owns (c : Thread nD τ) a5 fullShare x5
            ∗ owns (c : Thread nD τ) a6 fullShare (scores n0 n1 x2 x3 x4 x5) ∗ half c tabM T) -∗ K ⟨⟩))
      ⊢ wp frame (wpE (defs₀ (F := Ideal)) Variants.none c none) E
          (cc0__body i tabM (Memref.isWhole_whole _) a2 h2 a3 h3 a4 h4 a5 h5 a6 h6) K := by
  simp only [cc0__body_eq_skeleton]; unfold cc0__body_skel
  simp only [k0_part1_eq_skeleton]
  unfold owns
  iintro ⟨⟨%f2, %e2, H2⟩, ⟨%f3, %e3, H3⟩, ⟨%f4, %e4, H4⟩, ⟨%f5, %e5, H5⟩, ⟨%d6, %f6, -, H6⟩, HT, Hk⟩
  sl_exec
  sl_step
  iapply Hk
  isplitl [H2]
  · iexists _; isplitr
    · ipureintro; exact e2
    iexact H2
  isplitl [H3]
  · iexists _; isplitr
    · ipureintro; exact e3
    iexact H3
  isplitl [H4]
  · iexists _; isplitr
    · ipureintro; exact e4
    iexact H4
  isplitl [H5]
  · iexists _; isplitr
    · ipureintro; exact e5
    iexact H5
  isplitl [H6]
  · iexists _; isplitr; swap; · iexact H6
    ipureintro
    subst e2 e3 e4 e5
    unfold body_scores.sl.r_2 body_scores.sl.r_3 body_scores.sl.r_4 body_scores.sl.cst_14
    have r2 := View.readAt_full a2.view f2 inb_S16x128_S16x128_0_0
    have r3 := View.readAt_full a3.view f3 inb_S16x128_S16x128_0_0
    rw [r2, r3]
    have q0 : body_scores.sl.r c T = BitVec.ofNat 32 n0 := by
      unfold body_scores.sl.r; exact (congrArg T first_index).trans w0
    have q1 : body_scores.sl.r_1 c T = BitVec.ofNat 32 n1 := by
      unfold body_scores.sl.r_1; exact (congrArg T second_index).trans w1
    funext j
    have hj : j = ix2 (0 : Fin 1) (j 1 : Fin 204800) := funext fun a => by
      match a with
      | ⟨0, _⟩ => exact Subsingleton.elim (α := Fin 1) _ _
      | ⟨1, _⟩ => rfl
    rw [hj]
    exact chunks_written c i tabM _ a2 h2 a3 h3 a4 h4 a5 h5 a6 h6 _ _ _ _ (column n0 n1 _ _)
      (chunk_column _ _ n0 n1 l0 l1 q0 q1 _ _) f4 f5 f6 k0_t1_loop.trips le_rfl (j 1)
      (by rw [trips_eq]; exact (j 1 : Fin 204800).isLt)
  iexact HT

/-! ## The pipeline's blocks -/

/-- The columns of an output block that lie inside its array are those of the matrix's block at the same point, -/
theorem moved2 (m : (ℓ : Loc nD τ sig) → Buf (Elt Ideal) ℓ) (hO : ok0 (F := Ideal) (tbl m)) (i : grid0.Coords) (r : Fin 32)
    (j : Fin 204800) (h : j.val < ((pl m hO).win 4).xsize i (1 : Fin 2)) : ((pl m hO).win 2).moved i (ix2 r j) = true :=
  (((pl m hO).win 2).moved_iff i (ix2 r j)).mpr fun a => by
    match a with
    | ⟨0, _⟩ =>
      show r.val < ((pl m hO).win 2).xsize i (0 : Fin 2)
      have e : ((pl m hO).win 2).xsize i (0 : Fin 2) = 32 := rfl
      rw [e]; exact r.isLt
    | ⟨1, _⟩ => exact h
/-- and of the bias's. -/
theorem moved3 (m : (ℓ : Loc nD τ sig) → Buf (Elt Ideal) ℓ) (hO : ok0 (F := Ideal) (tbl m)) (i : grid0.Coords)
    (j : Fin 204800) (h : j.val < ((pl m hO).win 4).xsize i (1 : Fin 2)) : ((pl m hO).win 3).moved i (ix1 j) = true :=
  (((pl m hO).win 3).moved_iff i (ix1 j)).mpr fun a => by
    match a with
    | ⟨0, _⟩ => exact h

/-- What is written back of the scores does not depend on what the matrix's and the bias's buffers hold outside their
    arrays. -/
theorem cut_scores (m : (ℓ : Loc nD τ sig) → Buf (Elt Ideal) ℓ) (hO : ok0 (F := Ideal) (tbl m)) (i : grid0.Coords) (n0 n1 : ℕ)
    (x y : Vec Ideal S16x128 .f32) (d2 e2 : Vec Ideal S32x204800 .f32) (d3 e3 : Vec Ideal S204800 .f32)
    (g2 : (((pl m hO).win 2).xblock i).Idx → EReal) (g3 : (((pl m hO).win 3).xblock i).Idx → EReal) :
    ((pl m hO).win 4).cut i (scores n0 n1 x y (((pl m hO).win 2).fill i d2 g2) (((pl m hO).win 3).fill i d3 g3))
      = ((pl m hO).win 4).cut i (scores n0 n1 x y (((pl m hO).win 2).fill i e2 g2) (((pl m hO).win 3).fill i e3 g3)) := by
  funext j
  have hj : (j (1 : Fin 2)).val < ((pl m hO).win 4).xsize i (1 : Fin 2) := (j (1 : Fin 2)).isLt
  refine congrArg₂ (column n0 n1 x y) (funext fun r => ?_) ?_
  · have h := moved2 m hO i r (((pl m hO).win 4).xinj i j (1 : Fin 2)) hj
    unfold Window.fill; rw [dif_pos h, dif_pos h]
  · have h := moved3 m hO i (((pl m hO).win 4).xinj i j (1 : Fin 2)) hj
    unfold Window.fill; rw [dif_pos h, dif_pos h]

variable (m : (ℓ : Loc nD τ sig) → Buf (Elt Ideal) ℓ) (ρ : Dev nD → PrngReg)

/-- The word a staging block is completed by outside its array; any word does. -/
def zw : Ideal .f32 := 0

/-- The pipeline's proof data on core `c`: arrays as the region finds them, the inputs' blocks kept, the two windows on
    one array each holding its part of that array's share. -/
def data (hO : ok0 (F := Ideal) (tbl m)) (_ : Fin 1) (c : Dev nD) : Dat τ (Elt Ideal) Unit ℕ (UR sig nD τ) ℕ (pl m hO) c where
  A w := entry m c (Pipeline.arrRef spec0 w)
  after w t := match w with
    | ⟨0, _⟩ => blkAt m hO c 0 t
    | ⟨1, _⟩ => blkAt m hO c 1 t
    | ⟨2, _⟩ => padded m hO c 2 t (zw)
    | ⟨3, _⟩ => padded m hO c 3 t (zw)
    | ⟨4, _⟩ => scores (ctx m 0) (ctx m 1) (blkAt m hO c 0 t) (blkAt m hO c 1 t) (padded m hO c 2 t zw) (padded m hO c 3 t zw)
  Φ _ := iprop(Pipeline.ΦA spec0 c ∗ Pipeline.ΦT pre0 (tbl m) c)
  q w := Pipeline.shareOf spec0 w
  owed _ := 0

theorem data_A (hO : ok0 (F := Ideal) (tbl m)) (c : Dev nD) (w : Fin (pl m hO).W) :
    (data m hO 0 c).A w = entry m c (Pipeline.arrRef spec0 w) := by dsimp only [data]

theorem after0 (hO : ok0 (F := Ideal) (tbl m)) (c : Dev nD) (t : Fin (pl m hO).N) :
    (data m hO 0 c).after 0 t = blkAt m hO c 0 t := by dsimp only [data]; try rfl
theorem after1 (hO : ok0 (F := Ideal) (tbl m)) (c : Dev nD) (t : Fin (pl m hO).N) :
    (data m hO 0 c).after 1 t = blkAt m hO c 1 t := by dsimp only [data]; try rfl
theorem after2 (hO : ok0 (F := Ideal) (tbl m)) (c : Dev nD) (t : Fin (pl m hO).N) :
    (data m hO 0 c).after 2 t = padded m hO c 2 t (zw) := by dsimp only [data]; try rfl
theorem after3 (hO : ok0 (F := Ideal) (tbl m)) (c : Dev nD) (t : Fin (pl m hO).N) :
    (data m hO 0 c).after 3 t = padded m hO c 3 t (zw) := by dsimp only [data]; try rfl

theorem after4 (hO : ok0 (F := Ideal) (tbl m)) (c : Dev nD) (t : Fin (pl m hO).N) :
    (data m hO 0 c).after 4 t = scores (ctx m 0) (ctx m 1) (blkAt m hO c 0 t) (blkAt m hO c 1 t)
      (padded m hO c 2 t zw) (padded m hO c 3 t zw) := by dsimp only [data]; try rfl

/-- An input's buffer before the body at each point, whatever it held outside the array's part. -/
theorem before0 (hO : ok0 (F := Ideal) (tbl m)) (c : Dev nD) (t : Fin (pl m hO).N) (d) :
    (data m hO 0 c).before 0 t d = blkAt m hO c 0 t :=
  before_uncut0 (data m hO 0 c) (data_A m hO c 0) (after0 m hO c) t d
theorem before1 (hO : ok0 (F := Ideal) (tbl m)) (c : Dev nD) (t : Fin (pl m hO).N) (d) :
    (data m hO 0 c).before 1 t d = blkAt m hO c 1 t :=
  before_uncut1 (data m hO 0 c) (data_A m hO c 1) (after1 m hO c) t d
theorem before2 (hO : ok0 (F := Ideal) (tbl m)) (c : Dev nD) (t : Fin (pl m hO).N) (d) :
    (data m hO 0 c).before 2 t d = ((pl m hO).win 2).fill ((pl m hO).grid.coords t) d (blkAt m hO c 2 t) :=
  before_cut2 (data m hO 0 c) (data_A m hO c 2) _ (after2 m hO c) t d
theorem before3 (hO : ok0 (F := Ideal) (tbl m)) (c : Dev nD) (t : Fin (pl m hO).N) (d) :
    (data m hO 0 c).before 3 t d = ((pl m hO).win 3).fill ((pl m hO).grid.coords t) d (blkAt m hO c 3 t) :=
  before_cut3 (data m hO 0 c) (data_A m hO c 3) _ (after3 m hO c) t d

/-- The matrix's and the bias's buffers after the body hold their blocks on the part inside the array. -/
theorem cut2 (hO : ok0 (F := Ideal) (tbl m)) (c : Dev nD) (t : Fin (pl m hO).N) :
    ((pl m hO).win 2).cut ((pl m hO).grid.coords t) ((data m hO 0 c).after 2 t) = blkAt m hO c 2 t := by
  rw [after2]; unfold padded; exact Window.cut_fill _ _ _ _
theorem cut3 (hO : ok0 (F := Ideal) (tbl m)) (c : Dev nD) (t : Fin (pl m hO).N) :
    ((pl m hO).win 3).cut ((pl m hO).grid.coords t) ((data m hO 0 c).after 3 t) = blkAt m hO c 3 t := by
  rw [after3]; unfold padded; exact Window.cut_fill _ _ _ _

/-- What the output's buffer is left with on the part inside the array, whatever the matrix's and the bias's buffers hold
    outside theirs. -/
theorem cut4 (hO : ok0 (F := Ideal) (tbl m)) (c : Dev nD) (t : Fin (pl m hO).N) (d2 : Vec Ideal S32x204800 .f32)
    (d3 : Vec Ideal S204800 .f32) :
    ((pl m hO).win 4).cut ((pl m hO).grid.coords t) ((data m hO 0 c).after 4 t)
      = ((pl m hO).win 4).cut ((pl m hO).grid.coords t) (scores (ctx m 0) (ctx m 1) (blkAt m hO c 0 t) (blkAt m hO c 1 t)
          (((pl m hO).win 2).fill ((pl m hO).grid.coords t) d2 (blkAt m hO c 2 t))
          (((pl m hO).win 3).fill ((pl m hO).grid.coords t) d3 (blkAt m hO c 3 t))) := by
  rw [after4]
  exact cut_scores m hO ((pl m hO).grid.coords t) (ctx m 0) (ctx m 1) (blkAt m hO c 0 t) (blkAt m hO c 1 t)
    (fun _ => zw) d2 (fun _ => zw) d3 (blkAt m hO c 2 t) (blkAt m hO c 3 t)

/-- The scores the body leaves are what it is to return, completed by themselves. -/
theorem filled4 (hO : ok0 (F := Ideal) (tbl m)) (c : Dev nD) (t : Fin (pl m hO).N) (d2 : Vec Ideal S32x204800 .f32)
    (d3 : Vec Ideal S204800 .f32) :
    ((pl m hO).win 4).fill ((pl m hO).grid.coords t) (scores (ctx m 0) (ctx m 1) (blkAt m hO c 0 t) (blkAt m hO c 1 t)
          (((pl m hO).win 2).fill ((pl m hO).grid.coords t) d2 (blkAt m hO c 2 t))
          (((pl m hO).win 3).fill ((pl m hO).grid.coords t) d3 (blkAt m hO c 3 t)))
        (((pl m hO).win 4).cut ((pl m hO).grid.coords t) ((data m hO 0 c).after 4 t))
      = scores (ctx m 0) (ctx m 1) (blkAt m hO c 0 t) (blkAt m hO c 1 t)
          (((pl m hO).win 2).fill ((pl m hO).grid.coords t) d2 (blkAt m hO c 2 t))
          (((pl m hO).win 3).fill ((pl m hO).grid.coords t) d3 (blkAt m hO c 3 t)) := by
  rw [cut4 m hO c t d2 d3]; exact Window.fill_cut _ _ _

/-- What the body at point `t` is called with, window by window, -/
def given (hO : ok0 (F := Ideal) (tbl m)) (c : Dev nD) (t : Fin (pl m hO).N) : sProp 𝕄 :=
  iprop((data m hO 0 c).Φ t.castSucc ∗ (data m hO 0 c).owesAt () t.castSucc
    ∗ (∃ d, owns (c : Thread nD τ) (spec0_0.stage ((pl m hO).slots t 0)) fullShare ((data m hO 0 c).before 0 t d))
    ∗ (∃ d, owns (c : Thread nD τ) (spec0_1.stage ((pl m hO).slots t 1)) fullShare ((data m hO 0 c).before 1 t d))
    ∗ (∃ d, owns (c : Thread nD τ) (spec0_2.stage ((pl m hO).slots t 2)) fullShare ((data m hO 0 c).before 2 t d))
    ∗ (∃ d, owns (c : Thread nD τ) (spec0_3.stage ((pl m hO).slots t 3)) fullShare ((data m hO 0 c).before 3 t d))
    ∗ (∃ d, owns (c : Thread nD τ) (spec0_4.stage ((pl m hO).slots t 4)) fullShare ((data m hO 0 c).before 4 t d)))

/-- and what it returns: a cut window's buffer as the part inside the array completed by something. -/
def returned (hO : ok0 (F := Ideal) (tbl m)) (c : Dev nD) (t : Fin (pl m hO).N) : sProp 𝕄 :=
  iprop((data m hO 0 c).Φ t.succ ∗ (data m hO 0 c).owesAt () t.succ
    ∗ owns (c : Thread nD τ) (spec0_0.stage ((pl m hO).slots t 0)) fullShare ((data m hO 0 c).after 0 t)
    ∗ owns (c : Thread nD τ) (spec0_1.stage ((pl m hO).slots t 1)) fullShare ((data m hO 0 c).after 1 t)
    ∗ (∃ d, owns (c : Thread nD τ) (spec0_2.stage ((pl m hO).slots t 2)) fullShare (((pl m hO).win 2).fill
        ((pl m hO).grid.coords t) d (((pl m hO).win 2).cut ((pl m hO).grid.coords t) ((data m hO 0 c).after 2 t))))
    ∗ (∃ d, owns (c : Thread nD τ) (spec0_3.stage ((pl m hO).slots t 3)) fullShare (((pl m hO).win 3).fill
        ((pl m hO).grid.coords t) d (((pl m hO).win 3).cut ((pl m hO).grid.coords t) ((data m hO 0 c).after 3 t))))
    ∗ (∃ d, owns (c : Thread nD τ) (spec0_4.stage ((pl m hO).slots t 4)) fullShare (((pl m hO).win 4).fill
        ((pl m hO).grid.coords t) d (((pl m hO).win 4).cut ((pl m hO).grid.coords t) ((data m hO 0 c).after 4 t)))))

/-- The body at any point of the grid. -/
theorem body_at (hO : ok0 (F := Ideal) (tbl m)) (hc : ∀ j, ctx m j < 1000000) (c : Dev nD) (t : Fin (pl m hO).N) :
    given m hO c t ⊢ wp frame (wpE (defs₀ (F := Ideal)) Variants.none c none) Set.univ (bodyAt m hO t) (fun _ => returned m hO c t) := by
  unfold given returned bodyAt
  simp only [before0, before1, before2, before3]
  rw [show (data m hO 0 c).Φ t.succ = (data m hO 0 c).Φ t.castSucc from rfl,
    show (data m hO 0 c).owesAt () t.succ = (data m hO 0 c).owesAt () t.castSucc from rfl, after0, after1, cut2, cut3]
  rw [show (data m hO 0 c).Φ t.castSucc = iprop(Pipeline.ΦA spec0 c ∗ Pipeline.ΦT pre0 (tbl m) c) from rfl, tables_eq]
  iintro ⟨⟨HΦ, HT⟩, Ho, ⟨%d0, H0⟩, ⟨%d1, H1⟩, ⟨%d2, H2⟩, ⟨%d3, H3⟩, ⟨%d4, H4⟩⟩
  iapply (body_scores c (grid0.coords t) _ _ _ _ _ _ _ _ _ _ (blkAt m hO c 0 t) (blkAt m hO c 1 t) _ _ (tbl m 0)
    (ctx m 0) (ctx m 1) (lt_trans (hc 0) (by decide)) (lt_trans (hc 1) (by decide)) (tbl_word0 m) (tbl_word1 m) Set.univ _)
  isplitl [H0]; · iexact H0
  isplitl [H1]; · iexact H1
  isplitl [H2]; · iexact H2
  isplitl [H3]; · iexact H3
  isplitl [H4]; · iexists _; iexact H4
  isplitl [HT]; · iexact HT
  iintro ⟨H0, H1, H2, H3, H4, HT⟩
  isplitl [HΦ HT]
  · isplitl [HΦ]
    · iexact HΦ
    iexact HT
  isplitl [Ho]; · iexact Ho
  isplitl [H0]; · iexact H0
  isplitl [H1]; · iexact H1
  isplitl [H2]; · iexists d2; iexact H2
  isplitl [H3]; · iexists d3; iexact H3
  iexists (scores (ctx m 0) (ctx m 1) (blkAt m hO c 0 t) (blkAt m hO c 1 t)
    (((pl m hO).win 2).fill ((pl m hO).grid.coords t) d2 (blkAt m hO c 2 t))
    (((pl m hO).win 3).fill ((pl m hO).grid.coords t) d3 (blkAt m hO c 3 t)))
  rw [filled4 m hO c t d2 d3]
  iexact H4

/-- The body obligation at every point. -/
theorem obligation (hO : ok0 (F := Ideal) (tbl m)) (hc : ∀ j, ctx m j < 1000000) (c : Dev nD) :
    BodyObligationLoose (data m hO 0 c) (defs₀ (F := Ideal)) Variants.none () Set.univ := fun t => by
  rw [bigSep_W0, bigSep_W0, called m hO]
  exact triple_restated (body_at m hO hc c t) rfl .rfl fun _ => .rfl

set_option backward.isDefEq.respectTransparency.types false in
/-- The launch: every run ends with the pipeline's inputs and every other buffer as the region found them and every
    counter at zero. -/
theorem run (hO : ok0 (F := Ideal) (tbl m)) (hc : ∀ j, ctx m j < 1000000) : θ_run defs (onTc (τ := τ) (main (F := Ideal))) (s₀ m ρ)
    (fun r => Pipeline.FramePost (Pipeline.pin pcfgs fun _ => adm m hO) (data m hO) 0 (entry m) r
      ∧ r.2.sem = fun _ => 0) :=
  Pipeline.θ_run_frameP_shared (Q' := _) pcfgs (fun _ => adm m hO) (data m hO) (0 : Fin 1) launch₀0 defs₀ Variants.none m ρ main
    (hbody := fun c => obligation m hO hc c) (hq := fun _ _ _ => rfl) (howed := fun _ _ => rfl) (V := entry m)
    (hmain := main_enters m Variants.none) (hA := data_A m hO) (hpf := entry_tbl m) (hΦ := fun _ _ => rfl)

/-- The frame: from a table that places both windows inside their array, the program runs, its four arguments end
    unchanged and every counter ends at zero. -/
theorem frame_of_table (hO : ok0 (F := Ideal) (tbl m)) (hc : ∀ j, ctx m j < 1000000) : θ_run defs (onTc (τ := τ) (main (F := Ideal))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ ⟨h, hz⟩ => ⟨fun c =>
      ⟨((h c).2 main_arg0 (by decide : main_arg0 ∈ Pipeline.restRefs sig spec0)).trans (entry_arg0 m c),
       ((h c).2 main_arg1 (by decide : main_arg1 ∈ Pipeline.restRefs sig spec0)).trans (entry_arg1 m c),
       ((h c).2 main_arg2 (by decide : main_arg2 ∈ Pipeline.restRefs sig spec0)).trans (entry_arg2 m c),
       (((h c).1 3).trans ((data m hO 0 c).arrAt_in 3 rfl _)).trans ((data_A m hO c 3).trans (entry_arg3 m c))⟩, hz⟩) (run m ρ hO hc)

end Cert.KernelIdeal.Own

end
-- ==== Proof.IdealFrame.lean ====
/- The frame claim of `KernelIdeal`: under the precondition the table is one the region admits, so the run applies. -/
module

public import proofs.«01_k».proof.Defs
public import proofs.«01_k».proof.Proof.IdealRun

@[expose] public section

namespace Cert.KernelIdeal.Own

open Cert.KernelIdeal Cert.KernelIdeal.Gen
open Idealize.ShloMosaic Idealize.ShloMosaic.TcCoe

/-- The precondition bounds the table's words. -/
theorem ctx_lt (m : (ℓ : Loc nD τ sig) → Buf (Elt Ideal) ℓ) (h : Cert.Pre_KernelIdeal m) (j : Fin 2) : ctx m j < 1000000 :=
  Words.below _ _ _ _ (h 0) (at_ j)

/-- `KernelIdeal` runs, leaves its arguments unchanged and ends with every counter at zero, under the precondition. -/
theorem frame_claim : Cert.quiescent_KernelIdeal := fun m g h => frame_of_table m g (ok_of_ctx m (ctx_lt m h)) (ctx_lt m h)

end Cert.KernelIdeal.Own
-- ==== Proof.IdealMemory.lean ====
/- What `KernelIdeal`'s region finds in the two arrays its host operations made: the matrix transposed, and the embedding
   table transposed with columns appended. -/
module

public import proofs.«01_k».proof.Proof.IdealRun
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe

variable (m : (ℓ : Loc nD τ sig) → Buf (Elt Ideal) ℓ)

/-- The matrix's array at an element: the launched matrix's at the swapped one. -/
theorem entry_matrix (c : Dev nD) (r : Fin 32) (j : Fin 1000000) :
    entry m c main_v0 (ix2 r j) = m ((c : Thread nD τ).loc main_arg2) (ix2 j r) := by
  have e : entry m c main_v0 = transpose S32x1000000 [1, 0] (m ((c : Thread nD τ).loc main_arg2)) transposes_S1000000x32_S32x1000000_1_0 := by
    simp only [entry, hostOps0, hostOps0_1, List.flatten_cons, List.flatten_nil, List.append_nil, List.cons_append,
      List.nil_append, StableHlo.TRef.binary, StableHlo.TRef.unary, StableHlo.TRef.toBuf, StableHlo.TRef.ofBuf, cast_eq]
    after_results <;> rfl
  rw [e]
  pointwise
/-- The table's padded array at an element of one of its first million columns: the launched table's at the swapped one. -/
theorem entry_table (c : Dev nD) (r : Fin 16) (j : Fin 1000000) :
    entry m c main_v2 (ix2 r (⟨j.val, by omega⟩ : Fin 1000064)) = m ((c : Thread nD τ).loc main_arg1) (ix2 j r) := by
  have e : entry m c main_v2 = pad S16x1000064 ![0, 0] ![0, 64] ![0, 0] (transpose S16x1000000 [1, 0] (m ((c : Thread nD τ).loc main_arg1) : Vec Ideal S1000000x16 .f32) transposes_S1000000x16_S16x1000000_1_0) (sitofp (F := Ideal) .f32 (constantI S_ 32 0#32) : Vec Ideal S_ .f32) pads_S16x1000000_S16x1000064_000_0640 h_S_ := by
    simp only [entry, hostOps0, hostOps0_1, List.flatten_cons, List.flatten_nil, List.append_nil, List.cons_append,
      List.nil_append, StableHlo.TRef.binary, StableHlo.TRef.unary, StableHlo.TRef.toBuf, StableHlo.TRef.ofBuf, cast_eq]
    after_results <;> rfl
  rw [e]
  pointwise

end Cert.KernelIdeal.Own

end
-- ==== Proof.Score.lean ====
/- The value both programs end with: at every word of the vocabulary, its row of the matrix against the two picked rows of
   the embedding table, plus its bias. -/
module

public import Idealize.ShloMosaic.Lib.Pointwise

@[expose] public section

noncomputable section

namespace Cert.Score

open Idealize.ShloMosaic

/-- The scores of the vocabulary's words after the two context words `n0` and `n1`. -/
def score (n0 n1 : Fin 1000000) (t : Vec Ideal ⟨2, ![1000000, 16]⟩ .f32) (w : Vec Ideal ⟨2, ![1000000, 32]⟩ .f32)
    (b : Vec Ideal ⟨1, ![1000000]⟩ .f32) : Vec Ideal ⟨2, ![1, 1000000]⟩ .f32 := fun j =>
  (∑ k : Fin 16, w (ix2 (j 1) (⟨k.val, by omega⟩ : Fin 32)) * t (ix2 n0 k))
    + (∑ k : Fin 16, w (ix2 (j 1) (⟨16 + k.val, by omega⟩ : Fin 32)) * t (ix2 n1 k)) + b (ix1 (j 1))

/-- Scores of equal words, tables, matrices and biases are equal. -/
theorem score_congr {n0 n1 n0' n1' : Fin 1000000} {t t' : Vec Ideal ⟨2, ![1000000, 16]⟩ .f32}
    {w w' : Vec Ideal ⟨2, ![1000000, 32]⟩ .f32} {b b' : Vec Ideal ⟨1, ![1000000]⟩ .f32} (h0 : n0 = n0') (h1 : n1 = n1')
    (ht : t = t') (hw : w = w') (hb : b = b') : score n0 n1 t w b = score n0' n1' t' w' b' := by
  subst h0 h1 ht hw hb; rfl

/-- A sum over the 32 features is the sum over the first word's 16 and the second word's 16. -/
theorem sum_halves (f : Fin 32 → EReal) :
    ∑ k : Fin 32, f k = (∑ k : Fin 16, f ⟨k.val, by omega⟩) + ∑ k : Fin 16, f ⟨16 + k.val, by omega⟩ :=
  Fin.sum_univ_add (M := EReal) (a := 16) (b := 16) f

end Cert.Score

end
-- ==== Proof.IdealValue.lean ====
/- What `KernelIdeal`'s run leaves in its output array: the scores of the two context words. -/
module

public import proofs.«01_k».proof.Proof.IdealMemory
public import proofs.«01_k».proof.Proof.Score
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first table block at the picked lane: the first context word's row of the table. -/
theorem block0_at (hO : ok0 (F := Ideal) (tbl m)) (hc : ∀ j, ctx m j < 1000000) (c : Dev nD) (t : Fin (pl m hO).N) (k : Fin 16) :
    blkAt m hO c 0 t (ix2 k (lane (ctx m 0)))
      = m ((c : Thread nD τ).loc main_arg1) (ix2 (⟨ctx m 0, hc 0⟩ : Fin 1000000) k) := by
  have hp := place0 (tbl m) (grid0.coords t) (ctx m 0) (lt_trans (hc 0) (by decide)) (tbl_word0 m)
  refine Eq.trans ?_ (entry_table m c k ⟨ctx m 0, hc 0⟩)
  refine congrArg (entry m c main_v2) (funext fun a => Fin.ext ?_)
  match a with
  | ⟨0, _⟩ =>
    show cc0_transform_0 inb_S2_S1_0 numel1_S1 (tbl m) (grid0.coords t) 0 * 16 + 1 * k.val = k.val
    rw [hp]; show 0 * 16 + 1 * k.val = k.val; omega
  | ⟨1, _⟩ =>
    show cc0_transform_0 inb_S2_S1_0 numel1_S1 (tbl m) (grid0.coords t) 1 * 128 + 1 * (ctx m 0 % 128) = ctx m 0
    rw [hp]; show ctx m 0 / 128 * 128 + 1 * (ctx m 0 % 128) = ctx m 0; omega
/-- The second table block at the other picked lane: the second context word's row. -/
theorem block1_at (hO : ok0 (F := Ideal) (tbl m)) (hc : ∀ j, ctx m j < 1000000) (c : Dev nD) (t : Fin (pl m hO).N) (k : Fin 16) :
    blkAt m hO c 1 t (ix2 k (lane (ctx m 1)))
      = m ((c : Thread nD τ).loc main_arg1) (ix2 (⟨ctx m 1, hc 1⟩ : Fin 1000000) k) := by
  have hp := place1 (tbl m) (grid0.coords t) (ctx m 1) (lt_trans (hc 1) (by decide)) (tbl_word1 m)
  refine Eq.trans ?_ (entry_table m c k ⟨ctx m 1, hc 1⟩)
  refine congrArg (entry m c main_v2) (funext fun a => Fin.ext ?_)
  match a with
  | ⟨0, _⟩ =>
    show cc0_transform_1 inb_S2_S1_1 numel1_S1 (tbl m) (grid0.coords t) 0 * 16 + 1 * k.val = k.val
    rw [hp]; show 0 * 16 + 1 * k.val = k.val; omega
  | ⟨1, _⟩ =>
    show cc0_transform_1 inb_S2_S1_1 numel1_S1 (tbl m) (grid0.coords t) 1 * 128 + 1 * (ctx m 1 % 128) = ctx m 1
    rw [hp]; show ctx m 1 / 128 * 128 + 1 * (ctx m 1 % 128) = ctx m 1; omega

/-- The output's block index at a point of the grid is the point's number. -/
theorem place4 : ∀ t : Fin grid0.N, cc0_transform_4 (grid0.coords t) = ![0, t.val] := by decide +kernel
/-- So is the matrix's, -/
theorem place2 : ∀ t : Fin grid0.N, cc0_transform_2 (grid0.coords t) = ![0, t.val] := by decide +kernel
/-- and the bias's. -/
theorem place3 : ∀ t : Fin grid0.N, cc0_transform_3 (grid0.coords t) = ![t.val] := by decide +kernel
/-- The number of an output block's columns inside the array. -/
theorem width4 : ∀ t : Fin grid0.N, (clip0_4 (grid0.coords t) (1 : Fin 2)).extent 204800 = min 204800 (1000000 - t.val * 204800) := by
  decide +kernel

/-- The output's block goes back at every point. -/
theorem flush4 (hO : ok0 (F := Ideal) (tbl m)) (t : Fin (pl m hO).N) : ((pl m hO).win 4).flush t = true := by
  unfold Pipeline.Window.flush
  simp only [Bool.and_eq_true, Bool.or_eq_true, decide_eq_true_eq]
  refine ⟨rfl, ?_⟩
  by_cases h : t.val + 1 = grid0.N
  · exact .inl h
  · have hl : t.val < grid0.N := t.isLt
    have hs : t.val + 1 < grid0.N := by omega
    refine .inr ⟨hs, fun e => ?_⟩
    have e1 : cc0_transform_4 (grid0.coords ⟨t.val + 1, hs⟩) (1 : Fin 2) = cc0_transform_4 (grid0.coords t) (1 : Fin 2) :=
      congrFun e (1 : Fin 2)
    rw [place4, place4] at e1
    exact absurd (show t.val + 1 = t.val from e1) (by omega)

/-- A block's column inside the array lies below the vocabulary's size. -/
theorem column_lt (hO : ok0 (F := Ideal) (tbl m)) (t : Fin (pl m hO).N) (j : ℕ)
    (h : j < ((pl m hO).win 4).xsize ((pl m hO).grid.coords t) (1 : Fin 2)) : t.val * 204800 + j < 1000000 := by
  have hw : j < min 204800 (1000000 - t.val * 204800) := h.trans_eq (width4 t)
  omega

/-- The matrix's block at a column inside the array. -/
theorem matrix_at (hO : ok0 (F := Ideal) (tbl m)) (c : Dev nD) (t : Fin (pl m hO).N) (r : Fin 32) (j : Fin 204800)
    (h : j.val < ((pl m hO).win 4).xsize ((pl m hO).grid.coords t) (1 : Fin 2)) :
    padded m hO c 2 t zw (ix2 r j)
      = m ((c : Thread nD τ).loc main_arg2) (ix2 (⟨t.val * 204800 + j.val, column_lt m hO t _ h⟩ : Fin 1000000) r) := by
  have hm := moved2 m hO ((pl m hO).grid.coords t) r j h
  refine Eq.trans ?_ (entry_matrix m c r ⟨t.val * 204800 + j.val, column_lt m hO t _ h⟩)
  unfold padded Pipeline.Window.fill
  refine (dif_pos hm).trans ?_
  refine congrArg (entry m c main_v0) (funext fun a => Fin.ext ?_)
  match a with
  | ⟨0, _⟩ =>
    show cc0_transform_2 (grid0.coords t) 0 * 32 + 1 * r.val = r.val
    rw [place2]; show 0 * 32 + 1 * r.val = r.val; omega
  | ⟨1, _⟩ =>
    show cc0_transform_2 (grid0.coords t) 1 * 204800 + 1 * j.val = t.val * 204800 + j.val
    rw [place2]; show t.val * 204800 + 1 * j.val = _; omega
/-- The bias's block at one. -/
theorem bias_at (hO : ok0 (F := Ideal) (tbl m)) (c : Dev nD) (t : Fin (pl m hO).N) (j : Fin 204800)
    (h : j.val < ((pl m hO).win 4).xsize ((pl m hO).grid.coords t) (1 : Fin 2)) :
    padded m hO c 3 t zw (ix1 j)
      = m ((c : Thread nD τ).loc main_arg3) (ix1 (⟨t.val * 204800 + j.val, column_lt m hO t _ h⟩ : Fin 1000000)) := by
  have hm := moved3 m hO ((pl m hO).grid.coords t) j h
  refine Eq.trans ?_ (congrFun (entry_arg3 m c) (ix1 (⟨t.val * 204800 + j.val, column_lt m hO t _ h⟩ : Fin 1000000)))
  unfold padded Pipeline.Window.fill
  refine (dif_pos hm).trans ?_
  refine congrArg (entry m c main_arg3) (funext fun a => Fin.ext ?_)
  match a with
  | ⟨0, _⟩ =>
    show cc0_transform_3 (grid0.coords t) 0 * 204800 + 1 * j.val = t.val * 204800 + j.val
    rw [place3]; show t.val * 204800 + 1 * j.val = _; omega

/-- The scores of the context words. -/
abbrev goal (hc : ∀ j, ctx m j < 1000000) (c : Dev nD) : Vec Ideal S1x1000000 .f32 :=
  Score.score ⟨ctx m 0, hc 0⟩ ⟨ctx m 1, hc 1⟩ (m ((c : Thread nD τ).loc main_arg1)) (m ((c : Thread nD τ).loc main_arg2))
    (m ((c : Thread nD τ).loc main_arg3))

/-- A block of the output as it goes back is the goal's block. -/
theorem flushed4 (hO : ok0 (F := Ideal) (tbl m)) (hc : ∀ j, ctx m j < 1000000) (c : Dev nD) (t : Fin (pl m hO).N) :
    (data m hO 0 c).flushed 4 t = (((pl m hO).win 4).blk t).view.read (Elt Ideal) (goal m hc c) := by
  have e : (data m hO 0 c).flushed 4 t
      = ((pl m hO).win 4).cut ((pl m hO).grid.coords t) ((data m hO 0 c).after 4 t) := rfl
  rw [e, after4]
  funext y
  have hy : (y (1 : Fin 2)).val < ((pl m hO).win 4).xsize ((pl m hO).grid.coords t) (1 : Fin 2) := (y (1 : Fin 2)).isLt
  have hq : (((pl m hO).win 4).blk t).view.emb y (1 : Fin 2) = (⟨t.val * 204800 + (y (1 : Fin 2)).val, column_lt m hO t _ hy⟩ : Fin 1000000) := by
    refine Fin.ext ?_
    show cc0_transform_4 (grid0.coords t) 1 * 204800 + 1 * (y (1 : Fin 2)).val = _
    rw [place4]
    exact congrArg (t.val * 204800 + ·) (Nat.one_mul _)
  show column _ _ _ _ _ _ = Score.score _ _ _ _ _ ((((pl m hO).win 4).blk t).view.emb y)
  unfold column Score.score
  rw [hq]
  have hb := bias_at m hO c t (((pl m hO).win 4).xinj ((pl m hO).grid.coords t) y (1 : Fin 2)) hy
  refine congrArg₂ (· + ·) (congrArg₂ (· + ·) (Finset.sum_congr rfl fun k _ => ?_) (Finset.sum_congr rfl fun k _ => ?_)) hb
  · exact congrArg₂ (· * ·) (matrix_at m hO c t _ (((pl m hO).win 4).xinj ((pl m hO).grid.coords t) y (1 : Fin 2)) hy) (block0_at m hO hc c t k)
  · exact congrArg₂ (· * ·) (matrix_at m hO c t _ (((pl m hO).win 4).xinj ((pl m hO).grid.coords t) y (1 : Fin 2)) hy) (block1_at m hO hc c t k)

/-- Every element of the output lies in some block that goes back. -/
theorem cover4 (hO : ok0 (F := Ideal) (tbl m)) (i : S1x1000000.Idx) :
    ∃ t : Fin (pl m hO).N, ((pl m hO).win 4).flush t = true ∧ i ∈ (((pl m hO).win 4).blk t).view.set := by
  have hi : (i (1 : Fin 2)).val < 1000000 := (i (1 : Fin 2)).isLt
  have h0 : (i (0 : Fin 2)).val < 1 := (i (0 : Fin 2)).isLt
  have hN : grid0.N = 5 := by decide
  let t : Fin grid0.N := ⟨(i (1 : Fin 2)).val / 204800, by rw [hN]; omega⟩
  refine ⟨t, flush4 m hO t, ?_⟩
  refine (Finset.ext_iff.mp (View.set_slice_whole main_v3 (((pl m hO).win 4).rect t)) i).mpr ?_
  refine Rect.mem_set_unit.mpr fun a => ?_
  match a with
  | ⟨0, _⟩ =>
    show cc0_transform_4 (grid0.coords t) (0 : Fin 2) * 1 ≤ (i (0 : Fin 2)).val
      ∧ (i (0 : Fin 2)).val < cc0_transform_4 (grid0.coords t) (0 : Fin 2) * 1 + (clip0_4 (grid0.coords t) (0 : Fin 2)).extent 1
    have hw : (clip0_4 (grid0.coords t) (0 : Fin 2)).extent 1 = 1 := (by decide +kernel :
      ∀ t : Fin grid0.N, (clip0_4 (grid0.coords t) (0 : Fin 2)).extent 1 = 1) t
    rw [hw, place4]
    show 0 * 1 ≤ _ ∧ _ < 0 * 1 + 1
    omega
  | ⟨1, _⟩ =>
    show cc0_transform_4 (grid0.coords t) (1 : Fin 2) * 204800 ≤ (i (1 : Fin 2)).val
      ∧ (i (1 : Fin 2)).val < cc0_transform_4 (grid0.coords t) (1 : Fin 2) * 204800 + (clip0_4 (grid0.coords t) (1 : Fin 2)).extent 204800
    rw [width4, place4]
    show (i (1 : Fin 2)).val / 204800 * 204800 ≤ _ ∧ _ < (i (1 : Fin 2)).val / 204800 * 204800 + min 204800 (1000000 - (i (1 : Fin 2)).val / 204800 * 204800)
    omega

/-- The output array ends holding the scores. -/
theorem output (hO : ok0 (F := Ideal) (tbl m)) (hc : ∀ j, ctx m j < 1000000) (c : Dev nD) :
    (data m hO 0 c).arrAt 4 (pl m hO).N = goal m hc c :=
  (data m hO 0 c).arrAt_eq_of_cover 4 (goal m hc c) (fun t _ => flushed4 m hO hc c t) (cover4 m hO)

/-- The program runs to the scores of the context words, its arguments unchanged. -/
theorem run_score (hO : ok0 (F := Ideal) (tbl m)) (hc : ∀ j, ctx m j < 1000000) :
    θ_run defs (onTc (τ := τ) (main (F := Ideal))) ⟨m, fun _ => 0, ρ⟩ (fun r => ∀ c : Dev nD,
      r.2.mem ((c.tc : Thread nD τ).loc main_v3) = goal m hc c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ ⟨h, _⟩ c =>
      ⟨((h c).1 4).trans (output m hO hc c),
       ((h c).2 main_arg0 (by decide : main_arg0 ∈ Pipeline.restRefs sig spec0)).trans (entry_arg0 m c),
       ((h c).2 main_arg1 (by decide : main_arg1 ∈ Pipeline.restRefs sig spec0)).trans (entry_arg1 m c),
       ((h c).2 main_arg2 (by decide : main_arg2 ∈ Pipeline.restRefs sig spec0)).trans (entry_arg2 m c),
       (((h c).1 3).trans ((data m hO 0 c).arrAt_in 3 rfl _)).trans ((data_A m hO c 3).trans (entry_arg3 m c))⟩) (run m ρ hO hc)

end Cert.KernelIdeal.Own

end
-- ==== Proof.ReferenceValue.lean ====
/- What the reference's run ends with: its taken rows are the context words' rows of the table, and its sums are the
   scores. -/
module

public import proofs.«01_k».proof.Defs
public import proofs.«01_k».proof.Proof.Gen.ReferenceIdeal.Run
public import proofs.«01_k».proof.Proof.Words
public import proofs.«01_k».proof.Proof.Score
public import Idealize.ShloMosaic.Lib.Quiescent
public import Idealize.ShloMosaic.Lib.Routing.Ops

@[expose] public section

set_option maxRecDepth 16384

noncomputable section

namespace Cert.ReferenceIdeal.Own

open Cert.ReferenceIdeal Cert.ReferenceIdeal.Gen
open Idealize.ShloMosaic Idealize.ShloMosaic.TcCoe Idealize.SL.Sem

/-! ## The frame -/

/-- The reference runs, leaves its arguments unchanged and ends with every counter at zero. -/
theorem frame_claim : Cert.quiescent_ReferenceIdeal := fun m g _ =>
  (θ_run defs _ _).mono (fun r h => ⟨fun c => (h c).2, sem_eq_zero_of_no_sems rfl r.2⟩) (Value.run m g)

/-- The same where the precondition is stated. -/
theorem frame_claim_in_vocab : Cert.quiescent_ReferenceIdeal_pre_in_vocab := fun m g _ => frame_claim m g trivial

/-! ## The taken rows -/

variable (x0 : IVec S2 32) (x1 : Vec Ideal S1000000x16 .f32)

/-- The positions taken from: a word below zero counts from the end. -/
abbrev positions : IVec S2 32 :=
  select (cmpi .slt x0 (broadcastInDim S2 ![] bcast_S_S2 (constantI S_ 32 0#32)))
    (addi x0 (broadcastInDim S2 ![] bcast_S_S2 (constantI S_ 32 1000000#32))) x0

/-- Small words are the positions themselves. -/
theorem positions_eq (h : ∀ i, (x0 i).toNat < 1000000) : positions x0 = x0 := funext fun i => by
  have e := Words.not_neg (x0 i).toNat (by have := h i; omega)
  rw [Words.ofNat_self] at e
  show Scalar.select (Scalar.cmpi .slt (x0 i) 0#32) _ (x0 i) = x0 i
  rw [e]; rfl

/-- The column of the positions. -/
abbrev column : IVec S2x1 32 := broadcastInDim S2x1 ![0] bcast_S2_S2x1_0 x0

theorem column_ap (p : Fin 2) (q : Fin 1) : column x0 (ix2 p q) = x0 (ix1 p) := by
  pointwise

/-- Whether each position lies in the table. -/
abbrev inside : IVec S2 1 :=
  Host.reduce IntOp.andi
    (andi (cmpi .sge (column x0) (broadcastInDim S2x1 ![] bcast_S_S2x1 (constantI S_ 32 0#32)))
      (cmpi .sle (column x0) (broadcastInDim S2x1 ![0, 1] bcast_S1x1_S2x1_0_1 (broadcastInDim S1x1 ![1] bcast_S1_S1x1_1 (constantI S1 32 999999#32)))))
    (constantI S_ 1 1#1) reducesTo_S2x1_S2_d1 h_S_

/-- Small words all do. -/
theorem inside_one (h : ∀ i, (x0 i).toNat < 1000000) (i : S2.Idx) : inside x0 i = 1#1 := by
  refine Host.reduce_andi_one _ _ _ _ _ rfl fun q => ?_
  obtain ⟨a, b, rfl⟩ : ∃ (a : Fin 2) (b : Fin 1), q = ix2 a b := ⟨q 0, q 1, funext fun e => by match e with | ⟨0, _⟩ => rfl | ⟨1, _⟩ => rfl⟩
  have hx := h (ix1 a)
  refine IntOp.andi_eq_one.2 ⟨?_, ?_⟩
  · show IntOp.cmpi .sge (column x0 (ix2 a b)) 0#32 = 1#1
    rw [column_ap]
    exact (StableHlo.Predicate.sge_iff_toNat (by omega) (by decide)).mpr (Nat.zero_le _)
  · show IntOp.cmpi .sle (column x0 (ix2 a b)) 999999#32 = 1#1
    rw [column_ap]
    refine (StableHlo.Predicate.sle_iff_toNat (by omega) (by decide)).mpr ?_
    show (x0 (ix1 a)).toNat ≤ 999999
    omega

/-- The taken rows, completed by a filler where a position is outside. -/
abbrev taken : Vec Ideal S2x16 .f32 :=
  select (broadcastInDim S2x16 ![0] bcast_S2_S2x16_0 (inside x0))
    (Host.gather gather_S1000000x16_S2x1_S2x16_1_0_n_n_0_1_116 x1 (column x0))
    (broadcastInDim S2x16 ![] bcast_S_S2x16 (constant (F := Ideal) S_ .f32 0x7FC00000#32))

/-- A taken row at small words is the table's row at the word. -/
theorem taken_ap (h : ∀ i, (x0 i).toNat < 1000000) (p : Fin 2) (k : Fin 16) :
    taken x0 x1 (ix2 p k) = x1 (ix2 (⟨(x0 (ix1 p)).toNat, h _⟩ : Fin 1000000) k) := by
  have e : broadcastInDim S2x16 ![0] bcast_S2_S2x16_0 (inside x0) (ix2 p k) = 1#1 := inside_one x0 h _
  show Scalar.select (broadcastInDim S2x16 ![0] bcast_S2_S2x16_0 (inside x0) (ix2 p k)) _ _ = _
  rw [e]
  exact Routing.gather_row gather_S1000000x16_S2x1_S2x16_1_0_n_n_0_1_116 rfl rfl rfl rfl rfl x1 (column x0) p k
    ⟨(x0 (ix1 p)).toNat, h _⟩ ((column_ap x0 p 0).trans (Words.ofNat_self _).symm) (by decide)

/-! ## The sums -/

variable (x2 : Vec Ideal S1000000x32 .f32) (x3 : Vec Ideal S1000000 .f32)

/-- The reference's result at small words is the scores. -/
theorem value (h : ∀ i, (x0 i).toNat < 1000000) :
    addf (F := Ideal) (Host.dotGeneral (φ₁ := .f32) (φ₂ := .f32) dot_S1x32_S32x1000000_S1x1000000_1_0_0_1_n_n none
        (shapeCast _ (taken (positions x0) x1) shapeCasts_S2x16_S1x32)
        (transpose S32x1000000 [1, 0] x2 transposes_S1000000x32_S32x1000000_1_0))
      (broadcastInDim S1x1000000 ![1] bcast_S1000000_S1x1000000_1 x3)
      = Score.score ⟨(x0 (ix1 0)).toNat, h _⟩ ⟨(x0 (ix1 1)).toNat, h _⟩ x1 x2 x3 := by
  rw [positions_eq x0 h]
  have ht := taken_ap x0 x1 h
  generalize taken x0 x1 = T at ht ⊢
  funext j
  unfold Score.score
  pointwise
  rw [Score.sum_halves]
  refine congrArg (· + x3 (ix1 (j 1))) (congrArg₂ (· + ·) (Finset.sum_congr rfl fun k _ => ?_) (Finset.sum_congr rfl fun k _ => ?_))
  · have hk := k.isLt
    rw [mul_comm, ← ht 0 k]
    refine congrArg (x2 (ix2 (j 1) ⟨k.val, by omega⟩) * T ·) (congrArg₂ ix2 (Fin.ext ?_) (Fin.ext ?_))
    · show k.val / 16 = 0; omega
    · show k.val % 16 = k.val; omega
  · have hk := k.isLt
    rw [mul_comm, ← ht 1 k]
    refine congrArg (x2 (ix2 (j 1) ⟨16 + k.val, by omega⟩) * T ·) (congrArg₂ ix2 (Fin.ext ?_) (Fin.ext ?_))
    · show (16 + k.val) / 16 = 1; omega
    · show (16 + k.val) % 16 = k.val; omega

/-- The reference runs to the scores of the context words, its arguments unchanged. -/
theorem run_score (m : (ℓ : Loc nD τ sig) → Buf (Elt Ideal) ℓ) (g : Dev nD → PrngReg)
    (h : ∀ (c : Dev nD) (i : S2.Idx), (m ((c.tc : Thread nD τ).loc main_arg0) i : BitVec 32).toNat < 1000000) :
    θ_run defs (onTc (τ := τ) (main (F := Ideal))) ⟨m, fun _ => 0, g⟩ (fun r => ∀ c : Dev nD,
      r.2.mem ((c.tc : Thread nD τ).loc main_v5)
          = Score.score ⟨_, h c (ix1 0)⟩ ⟨_, h c (ix1 1)⟩ (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hr c => ⟨(hr c).1.trans (value _ _ _ _ (h c)), (hr c).2⟩) (Value.run m g)

end Cert.ReferenceIdeal.Own

end
-- ==== Proof.Equal.lean ====
/- The algebraic claim: both programs end with the scores of the context words, over exact sums. -/
module

public import proofs.«01_k».proof.Proof.IdealFrame
public import proofs.«01_k».proof.Proof.IdealValue
public import proofs.«01_k».proof.Proof.ReferenceValue

@[expose] public section

namespace Cert.Equal

open Idealize.ShloMosaic Idealize.ShloMosaic.TcCoe Idealize.SL.Sem
open Cert.KernelIdeal.Own (ctx ctx_lt ok_of_ctx at_ goal)

/-- From the same arguments, under the precondition, the two programs end with the same scores. -/
theorem algebraic_claim : Cert.algebraic_KernelIdeal_ReferenceIdeal := fun m g m' g' hp hm => by
  have hc := ctx_lt m hp
  have hx : ∀ (c : Dev Cert.ReferenceIdeal.nD) (j : Fin 2),
      (m' ((c.tc : Thread Cert.ReferenceIdeal.nD Cert.ReferenceIdeal.τ).loc Cert.ReferenceIdeal.main_arg0) (ix1 j) : BitVec 32).toNat = ctx m j := fun c j => by
    obtain rfl : c = 0 := Subsingleton.elim (α := Fin 1) _ _
    exact congrArg BitVec.toNat ((congrFun (hm 0).1 (ix1 j)).trans
      (congrArg (m (((0 : Dev Cert.KernelIdeal.nD).tc : Thread Cert.KernelIdeal.nD Cert.KernelIdeal.τ).loc Cert.KernelIdeal.main_arg0))
        (Routing.ofFin_eq_ix1 j).symm))
  have hr : ∀ (c : Dev Cert.ReferenceIdeal.nD) (i : Cert.ReferenceIdeal.S2.Idx),
      (m' ((c.tc : Thread Cert.ReferenceIdeal.nD Cert.ReferenceIdeal.τ).loc Cert.ReferenceIdeal.main_arg0) i : BitVec 32).toNat < 1000000 := fun c i => by
    obtain ⟨j, rfl⟩ : ∃ j : Fin 2, i = ix1 j := ⟨i 0, funext fun a => by match a with | ⟨0, _⟩ => rfl⟩
    rw [hx]; exact hc j
  refine ⟨goal m hc, Cert.KernelIdeal.Own.run_score m g (ok_of_ctx m hc) hc, ?_⟩
  refine (θ_run Cert.ReferenceIdeal.defs _ _).mono (fun r h c => ⟨(h c).1.trans ?_, (h c).2⟩)
    (Cert.ReferenceIdeal.Own.run_score m' g' hr)
  exact Score.score_congr (Fin.ext (hx c 0)) (Fin.ext (hx c 1)) (hm c).2.1 (hm c).2.2.1 (hm c).2.2.2

end Cert.Equal
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_in_vocab
public import proofs.«01_k».proof.Proof.KernelFrame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_in_vocab.Gen.facts,
  Cert.Kernel.Own.frame_claim, Cert.KernelIdeal.Own.frame_claim, Cert.ReferenceIdeal.Own.frame_claim,
  Cert.ReferenceIdeal.Own.frame_claim_in_vocab, trivial, Cert.Equal.algebraic_claim⟩

end Cert.Proof

end
